-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 2, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![4, 256, 1024]⟩ ⟨3, ![4, 512, 1024]⟩ (Layout.meshBlock [2, 2, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x512x512 : Shape := ⟨3, ![4, 512, 512]⟩
abbrev S4x256x1024 : Shape := ⟨3, ![4, 256, 1024]⟩
abbrev S4x128x1024 : Shape := ⟨3, ![4, 128, 1024]⟩
abbrev S4x64x1024 : Shape := ⟨3, ![4, 64, 1024]⟩
abbrev S4x64x512 : Shape := ⟨3, ![4, 64, 512]⟩
abbrev S6 : Shape := ⟨1, ![6]⟩
abbrev S4x2 : Shape := ⟨2, ![4, 2]⟩
abbrev S4 : Shape := ⟨1, ![4]⟩
abbrev S1 : Shape := ⟨1, ![1]⟩
abbrev S_ : Shape := ⟨0, ![]⟩
abbrev S512x512 : Shape := ⟨2, ![512, 512]⟩
abbrev S1x512x512 : Shape := ⟨3, ![1, 512, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x1 : Shape := ⟨2, ![1, 1]⟩
abbrev S1x64x512 : Shape := ⟨3, ![1, 64, 512]⟩
abbrev S64x512 : Shape := ⟨2, ![64, 512]⟩
abbrev S128x1024 : Shape := ⟨2, ![128, 1024]⟩
abbrev S1x128x1024 : Shape := ⟨3, ![1, 128, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x512x8x64, .f32⟩
  | .hbm, ⟨1, _⟩ => ⟨S512x1024, .f32⟩
  | .hbm, ⟨2, _⟩ => ⟨S4x512x512, .f32⟩
  | .hbm, ⟨3, _⟩ => ⟨S4x512x512, .f32⟩
  | .hbm, ⟨4, _⟩ => ⟨S4x256x1024, .bf16⟩
  | .local _ .vmem, ⟨0, _⟩ => ⟨S4x256x1024, .bf16⟩
  | .local _ .vmem, ⟨1, _⟩ => ⟨S4x512x512, .f32⟩
  | .local _ .vmem, ⟨2, _⟩ => ⟨S512x1024, .f32⟩
  | .local _ .vmem, ⟨3, _⟩ => ⟨S4x128x1024, .f32⟩
  | .local _ .vmem, ⟨4, _⟩ => ⟨S4x128x1024, .bf16⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | .local _ .vmem, ⟨8, _⟩ => ⟨S4x64x512, .bf16⟩
  | .local _ .vmem, ⟨9, _⟩ => ⟨S4x64x512, .bf16⟩
  | _, _ => ⟨S4x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_62 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_61 : BitVec 32 := 8#32
  let v80 : BitVec 32 := Scalar.muli v19 c8_i32_61
  let v81 : BitVec 32 := Scalar.addi c0_i32_62 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v82 : BitVec 32 := Scalar.muli v5 c4_i32_63
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v84 : BitVec 32 := Scalar.muli v8 c1_i32_64
  let v85 : BitVec 32 := Scalar.addi v83 v84
  v85.toNat
def k0_dev2 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v86 : BitVec 32 := Scalar.muli v2 c8_i32_66
  let v87 : BitVec 32 := Scalar.addi c0_i32_67 v86
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_68 : BitVec 32 := 4#32
  let v88 : BitVec 32 := Scalar.muli v20 c4_i32_68
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v90 : BitVec 32 := Scalar.muli v8 c1_i32_69
  let v91 : BitVec 32 := Scalar.addi v89 v90
  v91.toNat
def k0_dev3 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v92 : BitVec 32 := Scalar.muli v2 c8_i32_71
  let v93 : BitVec 32 := Scalar.addi c0_i32_72 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v94 : BitVec 32 := Scalar.muli v5 c4_i32_73
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_74 : BitVec 32 := 1#32
  let v96 : BitVec 32 := Scalar.muli v23 c1_i32_74
  let v97 : BitVec 32 := Scalar.addi v95 v96
  v97.toNat
def k0_off1 (d0 : Dev nD) : Fin 3 → Nat :=
  let c0 : Index := 0#32
  let c0_88 : Index := 0#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c256_i32_12 : BitVec 32 := 256#32
  let v28 : BitVec 32 := Scalar.muli v27 c256_i32_12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_13 : BitVec 32 := 128#32
  let v29 : BitVec 32 := Scalar.muli v5 c128_i32_13
  let v30 : BitVec 32 := Scalar.addi v28 v29
  let v108 : Index := Scalar.indexCast v30
  ![0, 0, v108.toNat]
def k0_off2 (d0 : Dev nD) : Fin 3 → Nat :=
  let c0_i32_95 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_94 : BitVec 32 := 64#32
  let v119 : BitVec 32 := Scalar.muli v18 c64_i32_94
  let c0_i32_107 : BitVec 32 := 0#32
  ![0, v119.toNat, 0]
def k0_dev4 (d0 : Dev nD) : Nat :=
  let c0_i32_102 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_101 : BitVec 32 := 8#32
  let v120 : BitVec 32 := Scalar.muli v19 c8_i32_101
  let v121 : BitVec 32 := Scalar.addi c0_i32_102 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v122 : BitVec 32 := Scalar.muli v5 c4_i32_103
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v124 : BitVec 32 := Scalar.muli v8 c1_i32_104
  let v125 : BitVec 32 := Scalar.addi v123 v124
  v125.toNat
def k0_off3 (d0 : Dev nD) : Fin 3 → Nat :=
  let c0_i32_121 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_120 : BitVec 32 := 64#32
  let v149 : BitVec 32 := Scalar.muli v18 c64_i32_120
  let c512_i32_133 : BitVec 32 := 512#32
  ![0, v149.toNat, 512]
def k0_dev5 (d0 : Dev nD) : Nat :=
  let c0_i32_128 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_127 : BitVec 32 := 8#32
  let v150 : BitVec 32 := Scalar.muli v19 c8_i32_127
  let v151 : BitVec 32 := Scalar.addi c0_i32_128 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v152 : BitVec 32 := Scalar.muli v5 c4_i32_129
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v154 : BitVec 32 := Scalar.muli v8 c1_i32_130
  let v155 : BitVec 32 := Scalar.addi v153 v154
  v155.toNat
def k0_off4 (d0 : Dev nD) : Fin 3 → Nat :=
  let c1 : Index := 1#32
  let c0_141 : Index := 0#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c256_i32_12 : BitVec 32 := 256#32
  let v28 : BitVec 32 := Scalar.muli v27 c256_i32_12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_13 : BitVec 32 := 128#32
  let v29 : BitVec 32 := Scalar.muli v5 c128_i32_13
  let v30 : BitVec 32 := Scalar.addi v28 v29
  let v170 : Index := Scalar.indexCast v30
  ![1, 0, v170.toNat]
def k0_off5 (d0 : Dev nD) : Fin 3 → Nat :=
  let c1_i32_149 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_148 : BitVec 32 := 64#32
  let v181 : BitVec 32 := Scalar.muli v18 c64_i32_148
  let c0_i32_161 : BitVec 32 := 0#32
  ![1, v181.toNat, 0]
def k0_dev6 (d0 : Dev nD) : Nat :=
  let c0_i32_156 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_155 : BitVec 32 := 8#32
  let v182 : BitVec 32 := Scalar.muli v19 c8_i32_155
  let v183 : BitVec 32 := Scalar.addi c0_i32_156 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v184 : BitVec 32 := Scalar.muli v5 c4_i32_157
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v186 : BitVec 32 := Scalar.muli v8 c1_i32_158
  let v187 : BitVec 32 := Scalar.addi v185 v186
  v187.toNat
def k0_off6 (d0 : Dev nD) : Fin 3 → Nat :=
  let c1_i32_171 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_170 : BitVec 32 := 64#32
  let v207 : BitVec 32 := Scalar.muli v18 c64_i32_170
  let c512_i32_183 : BitVec 32 := 512#32
  ![1, v207.toNat, 512]
def k0_dev7 (d0 : Dev nD) : Nat :=
  let c0_i32_178 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_177 : BitVec 32 := 8#32
  let v208 : BitVec 32 := Scalar.muli v19 c8_i32_177
  let v209 : BitVec 32 := Scalar.addi c0_i32_178 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v210 : BitVec 32 := Scalar.muli v5 c4_i32_179
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v212 : BitVec 32 := Scalar.muli v8 c1_i32_180
  let v213 : BitVec 32 := Scalar.addi v211 v212
  v213.toNat
def k0_off7 (d0 : Dev nD) : Fin 3 → Nat :=
  let c2 : Index := 2#32
  let c0_191 : Index := 0#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c256_i32_12 : BitVec 32 := 256#32
  let v28 : BitVec 32 := Scalar.muli v27 c256_i32_12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_13 : BitVec 32 := 128#32
  let v29 : BitVec 32 := Scalar.muli v5 c128_i32_13
  let v30 : BitVec 32 := Scalar.addi v28 v29
  let v228 : Index := Scalar.indexCast v30
  ![2, 0, v228.toNat]
def k0_off8 (d0 : Dev nD) : Fin 3 → Nat :=
  let c2_i32_199 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_198 : BitVec 32 := 64#32
  let v239 : BitVec 32 := Scalar.muli v18 c64_i32_198
  let c0_i32_211 : BitVec 32 := 0#32
  ![2, v239.toNat, 0]
def k0_dev8 (d0 : Dev nD) : Nat :=
  let c0_i32_206 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_205 : BitVec 32 := 8#32
  let v240 : BitVec 32 := Scalar.muli v19 c8_i32_205
  let v241 : BitVec 32 := Scalar.addi c0_i32_206 v240
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_207 : BitVec 32 := 4#32
  let v242 : BitVec 32 := Scalar.muli v5 c4_i32_207
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v244 : BitVec 32 := Scalar.muli v8 c1_i32_208
  let v245 : BitVec 32 := Scalar.addi v243 v244
  v245.toNat
def k0_off9 (d0 : Dev nD) : Fin 3 → Nat :=
  let c2_i32_221 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_220 : BitVec 32 := 64#32
  let v265 : BitVec 32 := Scalar.muli v18 c64_i32_220
  let c512_i32_233 : BitVec 32 := 512#32
  ![2, v265.toNat, 512]
def k0_dev9 (d0 : Dev nD) : Nat :=
  let c0_i32_228 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_227 : BitVec 32 := 8#32
  let v266 : BitVec 32 := Scalar.muli v19 c8_i32_227
  let v267 : BitVec 32 := Scalar.addi c0_i32_228 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_229 : BitVec 32 := 4#32
  let v268 : BitVec 32 := Scalar.muli v5 c4_i32_229
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v270 : BitVec 32 := Scalar.muli v8 c1_i32_230
  let v271 : BitVec 32 := Scalar.addi v269 v270
  v271.toNat
def k0_off10 (d0 : Dev nD) : Fin 3 → Nat :=
  let c3 : Index := 3#32
  let c0_241 : Index := 0#32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c256_i32_12 : BitVec 32 := 256#32
  let v28 : BitVec 32 := Scalar.muli v27 c256_i32_12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_13 : BitVec 32 := 128#32
  let v29 : BitVec 32 := Scalar.muli v5 c128_i32_13
  let v30 : BitVec 32 := Scalar.addi v28 v29
  let v286 : Index := Scalar.indexCast v30
  ![3, 0, v286.toNat]
def k0_off11 (d0 : Dev nD) : Fin 3 → Nat :=
  let c3_i32_249 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_248 : BitVec 32 := 64#32
  let v297 : BitVec 32 := Scalar.muli v18 c64_i32_248
  let c0_i32_261 : BitVec 32 := 0#32
  ![3, v297.toNat, 0]
def k0_dev10 (d0 : Dev nD) : Nat :=
  let c0_i32_256 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_255 : BitVec 32 := 8#32
  let v298 : BitVec 32 := Scalar.muli v19 c8_i32_255
  let v299 : BitVec 32 := Scalar.addi c0_i32_256 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v300 : BitVec 32 := Scalar.muli v5 c4_i32_257
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v302 : BitVec 32 := Scalar.muli v8 c1_i32_258
  let v303 : BitVec 32 := Scalar.addi v301 v302
  v303.toNat
def k0_off12 (d0 : Dev nD) : Fin 3 → Nat :=
  let c3_i32_271 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_270 : BitVec 32 := 64#32
  let v323 : BitVec 32 := Scalar.muli v18 c64_i32_270
  let c512_i32_283 : BitVec 32 := 512#32
  ![3, v323.toNat, 512]
def k0_dev11 (d0 : Dev nD) : Nat :=
  let c0_i32_278 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_277 : BitVec 32 := 8#32
  let v324 : BitVec 32 := Scalar.muli v19 c8_i32_277
  let v325 : BitVec 32 := Scalar.addi c0_i32_278 v324
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_279 : BitVec 32 := 4#32
  let v326 : BitVec 32 := Scalar.muli v5 c4_i32_279
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v328 : BitVec 32 := Scalar.muli v8 c1_i32_280
  let v329 : BitVec 32 := Scalar.addi v327 v328
  v329.toNat
def k0_off13 (d0 : Dev nD) : Fin 3 → Nat :=
  let c0_284 : Index := 0#32
  let c0_285 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v25 : BitVec 32 := Scalar.muli v5 c128_i32
  let v26 : BitVec 32 := Scalar.addi v24 v25
  let v338 : Index := Scalar.indexCast v26
  ![0, 0, v338.toNat]
def k0_off14 (d0 : Dev nD) : Fin 3 → Nat :=
  let c1_292 : Index := 1#32
  let c0_293 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v25 : BitVec 32 := Scalar.muli v5 c128_i32
  let v26 : BitVec 32 := Scalar.addi v24 v25
  let v348 : Index := Scalar.indexCast v26
  ![1, 0, v348.toNat]
def k0_off15 (d0 : Dev nD) : Fin 3 → Nat :=
  let c2_300 : Index := 2#32
  let c0_301 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v25 : BitVec 32 := Scalar.muli v5 c128_i32
  let v26 : BitVec 32 := Scalar.addi v24 v25
  let v358 : Index := Scalar.indexCast v26
  ![2, 0, v358.toNat]
def k0_off16 (d0 : Dev nD) : Fin 3 → Nat :=
  let c3_308 : Index := 3#32
  let c0_309 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v25 : BitVec 32 := Scalar.muli v5 c128_i32
  let v26 : BitVec 32 := Scalar.addi v24 v25
  let v368 : Index := Scalar.indexCast v26
  ![3, 0, v368.toNat]
def k0_off17 (d0 : Dev nD) : Fin 3 → Nat :=
  let c0_363 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_362 : BitVec 32 := 64#32
  let v414 : BitVec 32 := Scalar.muli v18 c64_i32_362
  let v415 : Index := Scalar.indexCast v414
  let c0_364 : Index := 0#32
  ![0, v415.toNat, 0]
def k0_off18 (d0 : Dev nD) : Fin 3 → Nat :=
  let c0_368 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let v423 : Index := Scalar.indexCast v33
  let c0_369 : Index := 0#32
  ![0, v423.toNat, 0]
def k0_off19 (d0 : Dev nD) : Fin 3 → Nat :=
  let c0_i32_370 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let c0_i32_380 : BitVec 32 := 0#32
  ![0, v33.toNat, 0]
def k0_dev12 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v427 : BitVec 32 := Scalar.muli v2 c8_i32_374
  let v428 : BitVec 32 := Scalar.addi c0_i32_375 v427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_376 : BitVec 32 := 4#32
  let v429 : BitVec 32 := Scalar.muli v5 c4_i32_376
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_377 : BitVec 32 := 1#32
  let v431 : BitVec 32 := Scalar.muli v23 c1_i32_377
  let v432 : BitVec 32 := Scalar.addi v430 v431
  v432.toNat
def k0_dev13 (d0 : Dev nD) : Nat :=
  let c0_i32_386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_385 : BitVec 32 := 8#32
  let v441 : BitVec 32 := Scalar.muli v2 c8_i32_385
  let v442 : BitVec 32 := Scalar.addi c0_i32_386 v441
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_387 : BitVec 32 := 4#32
  let v443 : BitVec 32 := Scalar.muli v20 c4_i32_387
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v445 : BitVec 32 := Scalar.muli v8 c1_i32_388
  let v446 : BitVec 32 := Scalar.addi v444 v445
  v446.toNat
def k0_off20 (d0 : Dev nD) : Fin 3 → Nat :=
  let c1_439 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_438 : BitVec 32 := 64#32
  let v491 : BitVec 32 := Scalar.muli v18 c64_i32_438
  let v492 : Index := Scalar.indexCast v491
  let c0_440 : Index := 0#32
  ![1, v492.toNat, 0]
def k0_off21 (d0 : Dev nD) : Fin 3 → Nat :=
  let c1_444 : Index := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let v500 : Index := Scalar.indexCast v33
  let c0_445 : Index := 0#32
  ![1, v500.toNat, 0]
def k0_off22 (d0 : Dev nD) : Fin 3 → Nat :=
  let c1_i32_446 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let c0_i32_456 : BitVec 32 := 0#32
  ![1, v33.toNat, 0]
def k0_dev14 (d0 : Dev nD) : Nat :=
  let c0_i32_451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_450 : BitVec 32 := 8#32
  let v504 : BitVec 32 := Scalar.muli v2 c8_i32_450
  let v505 : BitVec 32 := Scalar.addi c0_i32_451 v504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_452 : BitVec 32 := 4#32
  let v506 : BitVec 32 := Scalar.muli v5 c4_i32_452
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_453 : BitVec 32 := 1#32
  let v508 : BitVec 32 := Scalar.muli v23 c1_i32_453
  let v509 : BitVec 32 := Scalar.addi v507 v508
  v509.toNat
def k0_dev15 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v518 : BitVec 32 := Scalar.muli v2 c8_i32_461
  let v519 : BitVec 32 := Scalar.addi c0_i32_462 v518
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_463 : BitVec 32 := 4#32
  let v520 : BitVec 32 := Scalar.muli v20 c4_i32_463
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v522 : BitVec 32 := Scalar.muli v8 c1_i32_464
  let v523 : BitVec 32 := Scalar.addi v521 v522
  v523.toNat
def k0_off23 (d0 : Dev nD) : Fin 3 → Nat :=
  let c2_515 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_514 : BitVec 32 := 64#32
  let v568 : BitVec 32 := Scalar.muli v18 c64_i32_514
  let v569 : Index := Scalar.indexCast v568
  let c0_516 : Index := 0#32
  ![2, v569.toNat, 0]
def k0_off24 (d0 : Dev nD) : Fin 3 → Nat :=
  let c2_520 : Index := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let v577 : Index := Scalar.indexCast v33
  let c0_521 : Index := 0#32
  ![2, v577.toNat, 0]
def k0_off25 (d0 : Dev nD) : Fin 3 → Nat :=
  let c2_i32_522 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let c0_i32_532 : BitVec 32 := 0#32
  ![2, v33.toNat, 0]
def k0_dev16 (d0 : Dev nD) : Nat :=
  let c0_i32_527 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_526 : BitVec 32 := 8#32
  let v581 : BitVec 32 := Scalar.muli v2 c8_i32_526
  let v582 : BitVec 32 := Scalar.addi c0_i32_527 v581
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_528 : BitVec 32 := 4#32
  let v583 : BitVec 32 := Scalar.muli v5 c4_i32_528
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_529 : BitVec 32 := 1#32
  let v585 : BitVec 32 := Scalar.muli v23 c1_i32_529
  let v586 : BitVec 32 := Scalar.addi v584 v585
  v586.toNat
def k0_dev17 (d0 : Dev nD) : Nat :=
  let c0_i32_538 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_537 : BitVec 32 := 8#32
  let v595 : BitVec 32 := Scalar.muli v2 c8_i32_537
  let v596 : BitVec 32 := Scalar.addi c0_i32_538 v595
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_539 : BitVec 32 := 4#32
  let v597 : BitVec 32 := Scalar.muli v20 c4_i32_539
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v599 : BitVec 32 := Scalar.muli v8 c1_i32_540
  let v600 : BitVec 32 := Scalar.addi v598 v599
  v600.toNat
def k0_off26 (d0 : Dev nD) : Fin 3 → Nat :=
  let c3_591 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_590 : BitVec 32 := 64#32
  let v645 : BitVec 32 := Scalar.muli v18 c64_i32_590
  let v646 : Index := Scalar.indexCast v645
  let c0_592 : Index := 0#32
  ![3, v646.toNat, 0]
def k0_off27 (d0 : Dev nD) : Fin 3 → Nat :=
  let c3_596 : Index := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let v654 : Index := Scalar.indexCast v33
  let c0_597 : Index := 0#32
  ![3, v654.toNat, 0]
def k0_off28 (d0 : Dev nD) : Fin 3 → Nat :=
  let c3_i32_598 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_14 : BitVec 32 := 128#32
  let v31 : BitVec 32 := Scalar.muli v5 c128_i32_14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32 : BitVec 32 := 64#32
  let v32 : BitVec 32 := Scalar.muli v18 c64_i32
  let v33 : BitVec 32 := Scalar.addi v31 v32
  let c0_i32_608 : BitVec 32 := 0#32
  ![3, v33.toNat, 0]
def k0_dev18 (d0 : Dev nD) : Nat :=
  let c0_i32_603 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_602 : BitVec 32 := 8#32
  let v658 : BitVec 32 := Scalar.muli v2 c8_i32_602
  let v659 : BitVec 32 := Scalar.addi c0_i32_603 v658
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_604 : BitVec 32 := 4#32
  let v660 : BitVec 32 := Scalar.muli v5 c4_i32_604
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_605 : BitVec 32 := 1#32
  let v662 : BitVec 32 := Scalar.muli v23 c1_i32_605
  let v663 : BitVec 32 := Scalar.addi v661 v662
  v663.toNat
def k0_dev19 (d0 : Dev nD) : Nat :=
  let c0_i32_614 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_613 : BitVec 32 := 8#32
  let v672 : BitVec 32 := Scalar.muli v2 c8_i32_613
  let v673 : BitVec 32 := Scalar.addi c0_i32_614 v672
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_615 : BitVec 32 := 4#32
  let v674 : BitVec 32 := Scalar.muli v20 c4_i32_615
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_616 : BitVec 32 := 1#32
  let v676 : BitVec 32 := Scalar.muli v8 c1_i32_616
  let v677 : BitVec 32 := Scalar.addi v675 v676
  v677.toNat
def k0_off29 (d0 : Dev nD) : Fin 3 → Nat :=
  let c0_642 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_15 : BitVec 32 := 128#32
  let v34 : BitVec 32 := Scalar.muli v5 c128_i32_15
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_16 v18
  let c64_i32_17 : BitVec 32 := 64#32
  let v36 : BitVec 32 := Scalar.muli v35 c64_i32_17
  let v37 : BitVec 32 := Scalar.addi v34 v36
  let v706 : Index := Scalar.indexCast v37
  let c0_643 : Index := 0#32
  ![0, v706.toNat, 0]
def k0_dev20 (d0 : Dev nD) : Nat :=
  let c0_i32_649 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_648 : BitVec 32 := 8#32
  let v710 : BitVec 32 := Scalar.muli v2 c8_i32_648
  let v711 : BitVec 32 := Scalar.addi c0_i32_649 v710
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_650 : BitVec 32 := 4#32
  let v712 : BitVec 32 := Scalar.muli v20 c4_i32_650
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v714 : BitVec 32 := Scalar.muli v8 c1_i32_651
  let v715 : BitVec 32 := Scalar.addi v713 v714
  v715.toNat
def k0_off30 (d0 : Dev nD) : Fin 3 → Nat :=
  let c1_678 : Index := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_15 : BitVec 32 := 128#32
  let v34 : BitVec 32 := Scalar.muli v5 c128_i32_15
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_16 v18
  let c64_i32_17 : BitVec 32 := 64#32
  let v36 : BitVec 32 := Scalar.muli v35 c64_i32_17
  let v37 : BitVec 32 := Scalar.addi v34 v36
  let v744 : Index := Scalar.indexCast v37
  let c0_679 : Index := 0#32
  ![1, v744.toNat, 0]
def k0_dev21 (d0 : Dev nD) : Nat :=
  let c0_i32_685 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_684 : BitVec 32 := 8#32
  let v748 : BitVec 32 := Scalar.muli v2 c8_i32_684
  let v749 : BitVec 32 := Scalar.addi c0_i32_685 v748
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_686 : BitVec 32 := 4#32
  let v750 : BitVec 32 := Scalar.muli v20 c4_i32_686
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v752 : BitVec 32 := Scalar.muli v8 c1_i32_687
  let v753 : BitVec 32 := Scalar.addi v751 v752
  v753.toNat
def k0_off31 (d0 : Dev nD) : Fin 3 → Nat :=
  let c2_714 : Index := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_15 : BitVec 32 := 128#32
  let v34 : BitVec 32 := Scalar.muli v5 c128_i32_15
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_16 v18
  let c64_i32_17 : BitVec 32 := 64#32
  let v36 : BitVec 32 := Scalar.muli v35 c64_i32_17
  let v37 : BitVec 32 := Scalar.addi v34 v36
  let v782 : Index := Scalar.indexCast v37
  let c0_715 : Index := 0#32
  ![2, v782.toNat, 0]
def k0_dev22 (d0 : Dev nD) : Nat :=
  let c0_i32_721 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_720 : BitVec 32 := 8#32
  let v786 : BitVec 32 := Scalar.muli v2 c8_i32_720
  let v787 : BitVec 32 := Scalar.addi c0_i32_721 v786
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_722 : BitVec 32 := 4#32
  let v788 : BitVec 32 := Scalar.muli v20 c4_i32_722
  let v789 : BitVec 32 := Scalar.addi v787 v788
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_723 : BitVec 32 := 1#32
  let v790 : BitVec 32 := Scalar.muli v8 c1_i32_723
  let v791 : BitVec 32 := Scalar.addi v789 v790
  v791.toNat
def k0_off32 (d0 : Dev nD) : Fin 3 → Nat :=
  let c3_750 : Index := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_15 : BitVec 32 := 128#32
  let v34 : BitVec 32 := Scalar.muli v5 c128_i32_15
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v35 : BitVec 32 := Scalar.subi c1_i32_16 v18
  let c64_i32_17 : BitVec 32 := 64#32
  let v36 : BitVec 32 := Scalar.muli v35 c64_i32_17
  let v37 : BitVec 32 := Scalar.addi v34 v36
  let v820 : Index := Scalar.indexCast v37
  let c0_751 : Index := 0#32
  ![3, v820.toNat, 0]
def k0_dev23 (d0 : Dev nD) : Nat :=
  let c0_i32_757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_756 : BitVec 32 := 8#32
  let v824 : BitVec 32 := Scalar.muli v2 c8_i32_756
  let v825 : BitVec 32 := Scalar.addi c0_i32_757 v824
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_758 : BitVec 32 := 4#32
  let v826 : BitVec 32 := Scalar.muli v20 c4_i32_758
  let v827 : BitVec 32 := Scalar.addi v825 v826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v828 : BitVec 32 := Scalar.muli v8 c1_i32_759
  let v829 : BitVec 32 := Scalar.addi v827 v828
  v829.toNat
def k0_off33 (d0 : Dev nD) : Fin 3 → Nat :=
  let c0_786 : Index := 0#32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_18 v5
  let c128_i32_19 : BitVec 32 := 128#32
  let v39 : BitVec 32 := Scalar.muli v38 c128_i32_19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_20 : BitVec 32 := 64#32
  let v40 : BitVec 32 := Scalar.muli v18 c64_i32_20
  let v41 : BitVec 32 := Scalar.addi v39 v40
  let v858 : Index := Scalar.indexCast v41
  let c0_787 : Index := 0#32
  ![0, v858.toNat, 0]
def k0_dev24 (d0 : Dev nD) : Nat :=
  let c0_i32_793 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_792 : BitVec 32 := 8#32
  let v862 : BitVec 32 := Scalar.muli v2 c8_i32_792
  let v863 : BitVec 32 := Scalar.addi c0_i32_793 v862
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_794 : BitVec 32 := 4#32
  let v864 : BitVec 32 := Scalar.muli v5 c4_i32_794
  let v865 : BitVec 32 := Scalar.addi v863 v864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_795 : BitVec 32 := 1#32
  let v866 : BitVec 32 := Scalar.muli v23 c1_i32_795
  let v867 : BitVec 32 := Scalar.addi v865 v866
  v867.toNat
def k0_off34 (d0 : Dev nD) : Fin 3 → Nat :=
  let c1_822 : Index := 1#32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_18 v5
  let c128_i32_19 : BitVec 32 := 128#32
  let v39 : BitVec 32 := Scalar.muli v38 c128_i32_19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_20 : BitVec 32 := 64#32
  let v40 : BitVec 32 := Scalar.muli v18 c64_i32_20
  let v41 : BitVec 32 := Scalar.addi v39 v40
  let v896 : Index := Scalar.indexCast v41
  let c0_823 : Index := 0#32
  ![1, v896.toNat, 0]
def k0_dev25 (d0 : Dev nD) : Nat :=
  let c0_i32_829 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_828 : BitVec 32 := 8#32
  let v900 : BitVec 32 := Scalar.muli v2 c8_i32_828
  let v901 : BitVec 32 := Scalar.addi c0_i32_829 v900
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_830 : BitVec 32 := 4#32
  let v902 : BitVec 32 := Scalar.muli v5 c4_i32_830
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_831 : BitVec 32 := 1#32
  let v904 : BitVec 32 := Scalar.muli v23 c1_i32_831
  let v905 : BitVec 32 := Scalar.addi v903 v904
  v905.toNat
def k0_off35 (d0 : Dev nD) : Fin 3 → Nat :=
  let c2_858 : Index := 2#32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_18 v5
  let c128_i32_19 : BitVec 32 := 128#32
  let v39 : BitVec 32 := Scalar.muli v38 c128_i32_19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_20 : BitVec 32 := 64#32
  let v40 : BitVec 32 := Scalar.muli v18 c64_i32_20
  let v41 : BitVec 32 := Scalar.addi v39 v40
  let v934 : Index := Scalar.indexCast v41
  let c0_859 : Index := 0#32
  ![2, v934.toNat, 0]
def k0_dev26 (d0 : Dev nD) : Nat :=
  let c0_i32_865 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_864 : BitVec 32 := 8#32
  let v938 : BitVec 32 := Scalar.muli v2 c8_i32_864
  let v939 : BitVec 32 := Scalar.addi c0_i32_865 v938
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_866 : BitVec 32 := 4#32
  let v940 : BitVec 32 := Scalar.muli v5 c4_i32_866
  let v941 : BitVec 32 := Scalar.addi v939 v940
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_867 : BitVec 32 := 1#32
  let v942 : BitVec 32 := Scalar.muli v23 c1_i32_867
  let v943 : BitVec 32 := Scalar.addi v941 v942
  v943.toNat
def k0_off36 (d0 : Dev nD) : Fin 3 → Nat :=
  let c3_894 : Index := 3#32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v38 : BitVec 32 := Scalar.subi c1_i32_18 v5
  let c128_i32_19 : BitVec 32 := 128#32
  let v39 : BitVec 32 := Scalar.muli v38 c128_i32_19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c64_i32_20 : BitVec 32 := 64#32
  let v40 : BitVec 32 := Scalar.muli v18 c64_i32_20
  let v41 : BitVec 32 := Scalar.addi v39 v40
  let v972 : Index := Scalar.indexCast v41
  let c0_895 : Index := 0#32
  ![3, v972.toNat, 0]
def k0_dev27 (d0 : Dev nD) : Nat :=
  let c0_i32_901 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_900 : BitVec 32 := 8#32
  let v976 : BitVec 32 := Scalar.muli v2 c8_i32_900
  let v977 : BitVec 32 := Scalar.addi c0_i32_901 v976
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_902 : BitVec 32 := 4#32
  let v978 : BitVec 32 := Scalar.muli v5 c4_i32_902
  let v979 : BitVec 32 := Scalar.addi v977 v978
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_903 : BitVec 32 := 1#32
  let v980 : BitVec 32 := Scalar.muli v23 c1_i32_903
  let v981 : BitVec 32 := Scalar.addi v979 v980
  v981.toNat
def k0_off37 (d0 : Dev nD) : Fin 3 → Nat :=
  let c0_932 : Index := 0#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1010 : Index := Scalar.indexCast v46
  let c0_933 : Index := 0#32
  ![0, v1010.toNat, 0]
def k0_off38 (d0 : Dev nD) : Fin 3 → Nat :=
  let c1_958 : Index := 1#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1034 : Index := Scalar.indexCast v46
  let c0_959 : Index := 0#32
  ![1, v1034.toNat, 0]
def k0_off39 (d0 : Dev nD) : Fin 3 → Nat :=
  let c2_984 : Index := 2#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1058 : Index := Scalar.indexCast v46
  let c0_985 : Index := 0#32
  ![2, v1058.toNat, 0]
def k0_off40 (d0 : Dev nD) : Fin 3 → Nat :=
  let c3_1010 : Index := 3#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1082 : Index := Scalar.indexCast v46
  let c0_1011 : Index := 0#32
  ![3, v1082.toNat, 0]
def k0_off41 (d0 : Dev nD) : Fin 3 → Nat :=
  let c0_1036 : Index := 0#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1106 : Index := Scalar.indexCast v46
  let c512_1037 : Index := 512#32
  ![0, v1106.toNat, 512]
def k0_off42 (d0 : Dev nD) : Fin 3 → Nat :=
  let c1_1062 : Index := 1#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1130 : Index := Scalar.indexCast v46
  let c512_1063 : Index := 512#32
  ![1, v1130.toNat, 512]
def k0_off43 (d0 : Dev nD) : Fin 3 → Nat :=
  let c2_1088 : Index := 2#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1154 : Index := Scalar.indexCast v46
  let c512_1089 : Index := 512#32
  ![2, v1154.toNat, 512]
def k0_off44 (d0 : Dev nD) : Fin 3 → Nat :=
  let c3_1114 : Index := 3#32
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_21 v5
  let c128_i32_22 : BitVec 32 := 128#32
  let v43 : BitVec 32 := Scalar.muli v42 c128_i32_22
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v44 : BitVec 32 := Scalar.subi c1_i32_23 v18
  let c64_i32_24 : BitVec 32 := 64#32
  let v45 : BitVec 32 := Scalar.muli v44 c64_i32_24
  let v46 : BitVec 32 := Scalar.addi v43 v45
  let v1178 : Index := Scalar.indexCast v46
  let c512_1115 : Index := 512#32
  ![3, v1178.toNat, 512]
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S1024x1024, .f32⟩
  | .hbm, ⟨2, _⟩ => ⟨S4x512x1024, .f32⟩
  | .hbm, ⟨3, _⟩ => ⟨S4x512x1024, .f32⟩
  | .hbm, ⟨4, _⟩ => ⟨S4x512x1024, .bf16⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Model.lean ====
/-
  The kernel body as a program over symbolic blocks: one definition per kind of step (a local load, a product and its
  send, a local product, a combine and its two sends, a forward, a final store), each at a symbolic device `c`, batch
  `b` and half `n`, taking the rest of the program as its last argument. `body_eq` says the printed body is these steps
  in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.TwoPhase

open Cert.KernelIdeal Cert.KernelIdeal.Gen
open Idealize.ShloMosaic Idealize.ShloMosaic.TcCoe Idealize.SL.Sem

variable {F : FTy → Type} [FloatOps F]

/-! ## The buffers -/

abbrev aM : Memref sig .tc .hbm S4x512x512 .f32 := Memref.whole main_v2
abbrev bM : Memref sig .tc .hbm S512x1024 .f32 := Memref.whole main_arg1
abbrev outM : Memref sig .tc .vmem S4x256x1024 .bf16 := stage0_0 0
abbrev ovM : Memref sig .tc .vmem S4x512x512 .f32 := Memref.whole cc0_scratch0
abbrev wvM : Memref sig .tc .vmem S512x1024 .f32 := Memref.whole cc0_scratch1
abbrev reM : Memref sig .tc .vmem S4x128x1024 .f32 := Memref.whole cc0_scratch2
abbrev sxM : Memref sig .tc .vmem S4x128x1024 .bf16 := Memref.whole cc0_scratch3
abbrev rxM : Memref sig .tc .vmem S4x64x1024 .bf16 := Memref.whole cc0_scratch4
abbrev rzM : Memref sig .tc .vmem S4x64x1024 .bf16 := Memref.whole cc0_scratch5
abbrev ryM : Memref sig .tc .vmem S4x64x1024 .bf16 := Memref.whole cc0_scratch6
abbrev ryfM : Memref sig .tc .vmem S4x64x512 .bf16 := Memref.whole cc0_scratch7
abbrev rzfM : Memref sig .tc .vmem S4x64x512 .bf16 := Memref.whole cc0_scratch8

/-! ## The neighbours and the offsets that depend on the device -/

/-- The neighbours of a device along the mesh's first and second axes, and its partner along the third. -/
def xp (c : Dev nD) : Dev nD := ⟨k0_dev1 c, k0_dev1_lt c⟩
def yp (c : Dev nD) : Dev nD := ⟨k0_dev2 c, k0_dev2_lt c⟩
def zp (c : Dev nD) : Dev nD := ⟨k0_dev3 c, k0_dev3_lt c⟩

/-- The first of the 128 sequence rows whose product is sent to the first axis' neighbour, and of those kept. -/
def qPeer (c : Dev nD) : ℕ := k0_off1 c 2
def qOwn (c : Dev nD) : ℕ := k0_off13 c 2
/-- The first of a device's 64 rows inside a group of 128. -/
def rHalf (c : Dev nD) : ℕ := k0_off2 c 1
/-- The first result rows of the device's own 64, its partner's, its second-axis neighbour's and the diagonal's. -/
def rMine (c : Dev nD) : ℕ := k0_off18 c 1
def rFz (c : Dev nD) : ℕ := k0_off29 c 1
def rFy (c : Dev nD) : ℕ := k0_off33 c 1
def rDg (c : Dev nD) : ℕ := k0_off37 c 1

theorem qPeer_eq (c : Dev nD) : qPeer c = 256 * (1 - c.val / 8) + 128 * (c.val / 4 % 2) := by revert c; decide +kernel
theorem qOwn_eq (c : Dev nD) : qOwn c = 256 * (c.val / 8) + 128 * (c.val / 4 % 2) := by revert c; decide +kernel
theorem rHalf_eq (c : Dev nD) : rHalf c = 64 * (c.val % 2) := by revert c; decide +kernel
theorem rMine_eq (c : Dev nD) : rMine c = 128 * (c.val / 4 % 2) + 64 * (c.val % 2) := by revert c; decide +kernel
theorem rFz_eq (c : Dev nD) : rFz c = 128 * (c.val / 4 % 2) + 64 * (1 - c.val % 2) := by revert c; decide +kernel
theorem rFy_eq (c : Dev nD) : rFy c = 128 * (1 - c.val / 4 % 2) + 64 * (c.val % 2) := by revert c; decide +kernel
theorem rDg_eq (c : Dev nD) : rDg c = 128 * (1 - c.val / 4 % 2) + 64 * (1 - c.val % 2) := by revert c; decide +kernel

/-! ## The rectangles -/

/-- A rank three offset and size inside a shape, from the three axes' bounds. -/
theorem inb3 {d : Fin 3 → ℕ} {o z : Fin 3 → ℕ} (h0 : o 0 + z 0 ≤ d 0) (h1 : o 1 + z 1 ≤ d 1) (h2 : o 2 + z 2 ≤ d 2) :
    ∀ a, o a + z a ≤ d a := fun a => by
  match a with
  | ⟨0, _⟩ => exact h0
  | ⟨1, _⟩ => exact h1
  | ⟨2, _⟩ => exact h2

theorem lt16 (c : Dev nD) : c.val < 16 := c.isLt

/-- Batch `b` of the activations. -/
abbrev rO (b : Fin 4) : Rect S4x512x512 := Rect.unit (s := S4x512x512) ![b.val, 0, 0] S1x512x512.size (by revert b; decide)
/-- Column half `n` of the weights. -/
abbrev rW (n : Fin 2) : Rect S512x1024 := Rect.unit (s := S512x1024) ![0, 512 * n.val] S512x512.size (by revert n; decide)
/-- All of the weights. -/
abbrev rWW : Rect S512x1024 := Rect.unit (s := S512x1024) ![0, 0] S512x1024.size inb_S512x1024_S512x1024_0_0

theorem inbQ (b : Fin 4) (q : ℕ) (h : q ≤ 384) : ∀ a, (![b.val, 0, q] : Fin 3 → ℕ) a + S1x512x128.size a ≤ S4x512x512.size a :=
  inb3 (d := S4x512x512.size) (z := S1x512x128.size) (by have := b.isLt; show b.val + 1 ≤ 4; omega) (by show 0 + 512 ≤ 512; omega) (by show q + 128 ≤ 512; omega)

theorem qPeer_le (c : Dev nD) : qPeer c ≤ 384 := by rw [qPeer_eq]; omega
theorem qOwn_le (c : Dev nD) : qOwn c ≤ 384 := by have := lt16 c; rw [qOwn_eq]; omega

/-- The 128 columns of batch `b` whose product is sent, and of those kept. -/
abbrev rQp (c : Dev nD) (b : Fin 4) : Rect S4x512x512 := Rect.unit (s := S4x512x512) ![b.val, 0, qPeer c] S1x512x128.size (inbQ b _ (qPeer_le c))
abbrev rQo (c : Dev nD) (b : Fin 4) : Rect S4x512x512 := Rect.unit (s := S4x512x512) ![b.val, 0, qOwn c] S1x512x128.size (inbQ b _ (qOwn_le c))

/-- Batch `b`, column half `n` of the outgoing products. -/
abbrev rSx (b : Fin 4) (n : Fin 2) : Rect S4x128x1024 := Rect.unit (s := S4x128x1024) ![b.val, 0, 512 * n.val] S1x128x512.size (by revert b n; decide)

theorem inbSxs (c : Dev nD) (b : Fin 4) (n : Fin 2) : ∀ a, (![b.val, rHalf c, 512 * n.val] : Fin 3 → ℕ) a + S1x64x512.size a ≤ S4x128x1024.size a :=
  inb3 (d := S4x128x1024.size) (z := S1x64x512.size) (by have := b.isLt; show b.val + 1 ≤ 4; omega)
    (by show rHalf c + 64 ≤ 128; rw [rHalf_eq]; omega) (by have := n.isLt; show 512 * n.val + 512 ≤ 1024; omega)

/-- The device's 64 rows of it. -/
abbrev rSxs (c : Dev nD) (b : Fin 4) (n : Fin 2) : Rect S4x128x1024 :=
  Rect.unit (s := S4x128x1024) ![b.val, rHalf c, 512 * n.val] S1x64x512.size (inbSxs c b n)

/-- Batch `b`, column half `n` of a landing buffer. -/
abbrev rH (b : Fin 4) (n : Fin 2) : Rect S4x64x1024 := Rect.unit (s := S4x64x1024) ![b.val, 0, 512 * n.val] S1x64x512.size (by revert b n; decide)
/-- Batch `b` of a landing buffer. -/
abbrev rB (b : Fin 4) : Rect S4x64x1024 := Rect.unit (s := S4x64x1024) ![b.val, 0, 0] S1x64x1024.size (by revert b; decide)
/-- Batch `b` of a half-width landing buffer. -/
abbrev rF (b : Fin 4) : Rect S4x64x512 := Rect.unit (s := S4x64x512) ![b.val, 0, 0] S1x64x512.size (by revert b; decide)
/-- Batch `b` of the kept products. -/
abbrev rRe (b : Fin 4) : Rect S4x128x1024 := Rect.unit (s := S4x128x1024) ![b.val, 0, 0] S1x128x1024.size (by revert b; decide)

theorem inbRem (c : Dev nD) (b : Fin 4) : ∀ a, (![b.val, rHalf c, 0] : Fin 3 → ℕ) a + S1x64x1024.size a ≤ S4x128x1024.size a :=
  inb3 (d := S4x128x1024.size) (z := S1x64x1024.size) (by have := b.isLt; show b.val + 1 ≤ 4; omega)
    (by show rHalf c + 64 ≤ 128; rw [rHalf_eq]; omega) (by show 0 + 1024 ≤ 1024; omega)

/-- The device's 64 rows of it. -/
abbrev rRem (c : Dev nD) (b : Fin 4) : Rect S4x128x1024 :=
  Rect.unit (s := S4x128x1024) ![b.val, rHalf c, 0] S1x64x1024.size (inbRem c b)

theorem inbT (b : Fin 4) (r : ℕ) (h : r ≤ 192) : ∀ a, (![b.val, r, 0] : Fin 3 → ℕ) a + S1x64x1024.size a ≤ S4x256x1024.size a :=
  inb3 (d := S4x256x1024.size) (z := S1x64x1024.size) (by have := b.isLt; show b.val + 1 ≤ 4; omega) (by show r + 64 ≤ 256; omega) (by show 0 + 1024 ≤ 1024; omega)

theorem inbTh (b : Fin 4) (r : ℕ) (h : r ≤ 192) (n : Fin 2) : ∀ a, (![b.val, r, 512 * n.val] : Fin 3 → ℕ) a + S1x64x512.size a ≤ S4x256x1024.size a :=
  inb3 (d := S4x256x1024.size) (z := S1x64x512.size) (by have := b.isLt; show b.val + 1 ≤ 4; omega) (by show r + 64 ≤ 256; omega)
    (by have := n.isLt; show 512 * n.val + 512 ≤ 1024; omega)

theorem rMine_le (c : Dev nD) : rMine c ≤ 192 := by rw [rMine_eq]; omega
theorem rFz_le (c : Dev nD) : rFz c ≤ 192 := by rw [rFz_eq]; omega
theorem rFy_le (c : Dev nD) : rFy c ≤ 192 := by rw [rFy_eq]; omega
theorem rDg_le (c : Dev nD) : rDg c ≤ 192 := by rw [rDg_eq]; omega

/-- 64 rows of batch `b` of the result from row `r`, and column half `n` of them. -/
abbrev rT (b : Fin 4) (r : ℕ) (h : r ≤ 192) : Rect S4x256x1024 := Rect.unit (s := S4x256x1024) ![b.val, r, 0] S1x64x1024.size (inbT b r h)
abbrev rTh (b : Fin 4) (r : ℕ) (h : r ≤ 192) (n : Fin 2) : Rect S4x256x1024 := Rect.unit (s := S4x256x1024) ![b.val, r, 512 * n.val] S1x64x512.size (inbTh b r h n)

/-! ## The transfers' ends -/

abbrev vA (b : Fin 4) : Memref sig .tc .hbm S512x512 .f32 := (aM.slice (rO b) (fun _ => rfl)).squeeze S512x512 squeezes_S1x512x512_S512x512
abbrev vO (b : Fin 4) : Memref sig .tc .vmem S512x512 .f32 := (ovM.slice (rO b) (fun _ => rfl)).squeeze S512x512 squeezes_S1x512x512_S512x512
abbrev vB (n : Fin 2) : Memref sig .tc .hbm S512x512 .f32 := bM.slice (rW n) (fun _ => rfl)
abbrev vW (n : Fin 2) : Memref sig .tc .vmem S512x512 .f32 := wvM.slice (rW n) (fun _ => rfl)
abbrev vSx (c : Dev nD) (b : Fin 4) (n : Fin 2) : Memref sig .tc .vmem S64x512 .bf16 := (sxM.slice (rSxs c b n) (fun _ => rfl)).squeeze S64x512 squeezes_S1x64x512_S64x512
abbrev vRx (b : Fin 4) (n : Fin 2) : Memref sig .tc .vmem S64x512 .bf16 := (rxM.slice (rH b n) (fun _ => rfl)).squeeze S64x512 squeezes_S1x64x512_S64x512
abbrev vOut (c : Dev nD) (b : Fin 4) : Memref sig .tc .vmem S64x1024 .bf16 := (outM.slice (rT b (rMine c) (rMine_le c)) (fun _ => rfl)).squeeze S64x1024 squeezes_S1x64x1024_S64x1024
abbrev vRz (b : Fin 4) : Memref sig .tc .vmem S64x1024 .bf16 := (rzM.slice (rB b) (fun _ => rfl)).squeeze S64x1024 squeezes_S1x64x1024_S64x1024
abbrev vRy (b : Fin 4) : Memref sig .tc .vmem S64x1024 .bf16 := (ryM.slice (rB b) (fun _ => rfl)).squeeze S64x1024 squeezes_S1x64x1024_S64x1024
abbrev vRzh (b : Fin 4) : Memref sig .tc .vmem S64x512 .bf16 := (rzM.slice (rH b 0) (fun _ => rfl)).squeeze S64x512 squeezes_S1x64x512_S64x512
abbrev vRyh (b : Fin 4) : Memref sig .tc .vmem S64x512 .bf16 := (ryM.slice (rH b 1) (fun _ => rfl)).squeeze S64x512 squeezes_S1x64x512_S64x512
abbrev vRyf (b : Fin 4) : Memref sig .tc .vmem S64x512 .bf16 := (ryfM.slice (rF b) (fun _ => rfl)).squeeze S64x512 squeezes_S1x64x512_S64x512
abbrev vRzf (b : Fin 4) : Memref sig .tc .vmem S64x512 .bf16 := (rzfM.slice (rF b) (fun _ => rfl)).squeeze S64x512 squeezes_S1x64x512_S64x512

/-! Every one of these ends is whole words, and every store's rectangle is packed rows. -/

theorem ww_outM (r : Rect S4x256x1024) (h : r.WholeWords (EltTy.packing .bf16)) : (outM.view.slice r).WordExact :=
  (hstage0_0 0).wordExact_slice rfl r h

theorem wSx (c : Dev nD) (b : Fin 4) (n : Fin 2) : (vSx c b n).view.WordExact :=
  ((Memref.isWhole_whole cc0_scratch3).wordExact_slice rfl _ (by revert c b n; decide +kernel)).reshape _ _
theorem wRx (b : Fin 4) (n : Fin 2) : (vRx b n).view.WordExact :=
  ((Memref.isWhole_whole cc0_scratch4).wordExact_slice rfl _ (by revert b n; decide)).reshape _ _
theorem wOut (c : Dev nD) (b : Fin 4) : (vOut c b).view.WordExact :=
  (ww_outM _ (by revert c b; decide +kernel)).reshape _ _
theorem wRz (b : Fin 4) : (vRz b).view.WordExact :=
  ((Memref.isWhole_whole cc0_scratch5).wordExact_slice rfl _ (by revert b; decide)).reshape _ _
theorem wRy (b : Fin 4) : (vRy b).view.WordExact :=
  ((Memref.isWhole_whole cc0_scratch6).wordExact_slice rfl _ (by revert b; decide)).reshape _ _
theorem wRzh (b : Fin 4) : (vRzh b).view.WordExact :=
  ((Memref.isWhole_whole cc0_scratch5).wordExact_slice rfl _ (by revert b; decide)).reshape _ _
theorem wRyh (b : Fin 4) : (vRyh b).view.WordExact :=
  ((Memref.isWhole_whole cc0_scratch6).wordExact_slice rfl _ (by revert b; decide)).reshape _ _
theorem wRyf (b : Fin 4) : (vRyf b).view.WordExact :=
  ((Memref.isWhole_whole cc0_scratch7).wordExact_slice rfl _ (by revert b; decide)).reshape _ _
theorem wRzf (b : Fin 4) : (vRzf b).view.WordExact :=
  ((Memref.isWhole_whole cc0_scratch8).wordExact_slice rfl _ (by revert b; decide)).reshape _ _

theorem pkSx (b : Fin 4) (n : Fin 2) : (rSx b n).PackedRows (EltTy.packing .bf16) := by revert b n; decide

theorem pkT (b : Fin 4) (r : ℕ) (h : r ≤ 192) (h2 : 2 ∣ r) : (rT b r h).PackedRows (EltTy.packing .bf16) := by
  refine .inr ⟨(by decide : 2 ≤ 3), rfl, .inl ⟨?_, ?_⟩⟩
  · exact h2
  · exact ⟨32, rfl⟩
theorem pkTh (b : Fin 4) (r : ℕ) (h : r ≤ 192) (n : Fin 2) (h2 : 2 ∣ r) : (rTh b r h n).PackedRows (EltTy.packing .bf16) := by
  refine .inr ⟨(by decide : 2 ≤ 3), rfl, .inl ⟨?_, ?_⟩⟩
  · exact h2
  · exact ⟨32, rfl⟩

theorem rMine_even (c : Dev nD) : 2 ∣ rMine c := by rw [rMine_eq]; omega
theorem rFz_even (c : Dev nD) : 2 ∣ rFz c := by rw [rFz_eq]; omega
theorem rFy_even (c : Dev nD) : 2 ∣ rFy c := by rw [rFy_eq]; omega
theorem rDg_even (c : Dev nD) : 2 ∣ rDg c := by rw [rDg_eq]; omega

/-! ## The semaphores -/

abbrev semL (i : Fin 6) : DmaSem sig := ((cc0_scratch9.slice (Rect.unit (s := S6) ![i.val] S1.size (by revert i; decide))).squeeze S_ squeezes_S1_S_).sem
abbrev sem2 (A : DmaSems sig S4x2) (b : Fin 4) (n : Fin 2) : DmaSem sig :=
  ((A.slice (Rect.unit (s := S4x2) ![b.val, n.val] S1x1.size (by revert b n; decide))).squeeze S_ squeezes_S1x1_S_).sem
abbrev sem1 (A : DmaSems sig S4) (b : Fin 4) : DmaSem sig :=
  ((A.slice (Rect.unit (s := S4) ![b.val] S1.size (by revert b; decide))).squeeze S_ squeezes_S1_S_).sem
abbrev barS : Sem sig := (SemArray.scalar (sig.barrier 0 rfl) : Sems sig S_).sem

/-- The semaphore of batch `b` of the activations, of half `n` of the weights. -/
abbrev lO (b : Fin 4) : Fin 6 := ⟨b.val, by omega⟩
abbrev lW (n : Fin 2) : Fin 6 := ⟨4 + n.val, by omega⟩

/-! ## The steps -/

abbrev PR (F : FTy → Type) [FloatOps F] : Type 1 := Prog (TpuEff nD τ sig (Elt F) Λ₀ .tc) PUnit

/-- Start the copy of batch `b` of the activations; of half `n` of the weights. -/
def pLdO (b : Fin 4) (k : PR F) : PR F :=
  .op (.enqueueDma (vA b) (.here (vO b)) (.dma (semL (lO b))) ((View.wordExact_bits rfl).reshape _ _) ((View.wordExact_bits rfl).reshape _ _) ⟨Or.inl rfl, trivial⟩) fun _ => k
def pLdW (n : Fin 2) (k : PR F) : PR F :=
  .op (.enqueueDma (vB n) (.here (vW n)) (.dma (semL (lW n))) (View.wordExact_bits rfl) (View.wordExact_bits rfl) ⟨Or.inl rfl, trivial⟩) fun _ => k
/-- Wait for it. -/
def pWtO (b : Fin 4) (k : PR F) : PR F :=
  .op (.waitDma2 (semL (lO b)) (vA b) (vO b) ((View.wordExact_bits rfl).reshape _ _) ((View.wordExact_bits rfl).reshape _ _)) fun _ => k
def pWtW (n : Fin 2) (k : PR F) : PR F :=
  .op (.waitDma2 (semL (lW n)) (vB n) (vW n) (View.wordExact_bits rfl) (View.wordExact_bits rfl)) fun _ => k

/-- Announce the device to its three neighbours and wait for their three announcements. -/
def pBar (c : Dev nD) (k : PR F) : PR F :=
  (semSignalWord (xp c) barS 1#32).bind fun _ => (semSignalWord (yp c) barS 1#32).bind fun _ =>
  (semSignalWord (zp c) barS 1#32).bind fun _ => (semWaitWord barS 3#32).bind fun _ => k

/-- The product for the first axis' neighbour at batch `b`, half `n`, stored and its 64 rows sent. -/
def pX (c : Dev nD) (b : Fin 4) (n : Fin 2) (k : PR F) : PR F :=
  .op (.load ovM (rQp c b).toLoadRect (View.loadsAt_vmem h_S1x512x128)) fun v =>
  .op (.load wvM (rW n).toLoadRect (View.loadsAt_vmem h_S512x512)) fun w =>
  .op (.load sxM (rSx b n).toLoadRect (View.loadsAt_vmem h_S1x128x512)) fun _ =>
  .op (.store sxM (rSx b n) (k0_pay2 v w) Finset.univ
    (View.stores_vmem h_S1x128x512 ((Memref.isWhole_whole cc0_scratch3).storeExact_slice rfl _ (pkSx b n)) (fun _ => rfl)) (.inl rfl)) fun _ =>
  .op (.enqueueDma (vSx c b n) (.remote (Dev.tc (xp c)) (vRx b n) (.dma (sem2 cc0_scratch10 b n))) (.dma (sem2 cc0_scratch11 b n))
    (wSx c b n) (wRx b n) ⟨⟨rfl, Or.inl rfl⟩, trivial⟩) fun _ => k

/-- The product kept at batch `b`. -/
def pRe (c : Dev nD) (b : Fin 4) (k : PR F) : PR F :=
  .op (.load ovM (rQo c b).toLoadRect (View.loadsAt_vmem h_S1x512x128)) fun v =>
  .op (.load wvM rWW.toLoadRect (View.loadsAt_vmem h_S512x1024)) fun w =>
  .op (.load reM (rRe b).toLoadRect (View.loadsAt_vmem h_S1x128x1024)) fun _ =>
  .op (.store reM (rRe b) (k0_pay11 v w) Finset.univ (View.stores_vmem_bits_univ h_S1x128x1024 rfl) (.inl rfl)) fun _ => k

/-- The two waits of the first exchange at batch `b`, half `n`. -/
def pWtX (c : Dev nD) (b : Fin 4) (n : Fin 2) (k : PR F) : PR F :=
  .op (.waitDma2 (sem2 cc0_scratch10 b n) (vRx b n) (vSx c b n) (wRx b n) (wSx c b n)) fun _ =>
  .op (.waitDma2 (sem2 cc0_scratch11 b n) (vSx c b n) (vRx b n) (wSx c b n) (wRx b n)) fun _ => k

/-- Batch `b`'s own rows summed and stored, then sent to the third- and second-axis neighbours. -/
def pMine (c : Dev nD) (b : Fin 4) (k : PR F) : PR F :=
  .op (.load reM (rRem c b).toLoadRect (View.loadsAt_vmem h_S1x64x1024)) fun v =>
  .op (.load rxM (rB b).toLoadRect (View.loadsAt_vmem h_S1x64x1024)) fun w =>
  .op (.load outM (rT b (rMine c) (rMine_le c)).toLoadRect (View.loadsAt_vmem h_S1x64x1024)) fun _ =>
  .op (.store outM (rT b (rMine c) (rMine_le c)) (k0_pay16 v w) Finset.univ
    (View.stores_vmem h_S1x64x1024 ((hstage0_0 0).storeExact_slice rfl _ (pkT b _ _ (rMine_even c))) (fun _ => rfl)) (.inl rfl)) fun _ =>
  .op (.enqueueDma (vOut c b) (.remote (Dev.tc (zp c)) (vRz b) (.dma (sem1 cc0_scratch12 b))) (.dma (sem1 cc0_scratch13 b))
    (wOut c b) (wRz b) ⟨⟨rfl, Or.inl rfl⟩, trivial⟩) fun _ =>
  .op (.enqueueDma (vOut c b) (.remote (Dev.tc (yp c)) (vRy b) (.dma (sem1 cc0_scratch14 b))) (.dma (sem1 cc0_scratch15 b))
    (wOut c b) (wRy b) ⟨⟨rfl, Or.inl rfl⟩, trivial⟩) fun _ => k

/-- Batch `b` from the partner: its two waits, stored in its rows, its left half forwarded along the second axis. -/
def pZ (c : Dev nD) (b : Fin 4) (k : PR F) : PR F :=
  .op (.waitDma2 (sem1 cc0_scratch12 b) (vRz b) (vOut c b) (wRz b) (wOut c b)) fun _ =>
  .op (.waitDma2 (sem1 cc0_scratch13 b) (vOut c b) (vRz b) (wOut c b) (wRz b)) fun _ =>
  .op (.load rzM (rB b).toLoadRect (View.loadsAt_vmem h_S1x64x1024)) fun v =>
  .op (.load outM (rT b (rFz c) (rFz_le c)).toLoadRect (View.loadsAt_vmem h_S1x64x1024)) fun _ =>
  .op (.store outM (rT b (rFz c) (rFz_le c)) (k0_pay20 v) Finset.univ
    (View.stores_vmem h_S1x64x1024 ((hstage0_0 0).storeExact_slice rfl _ (pkT b _ _ (rFz_even c))) (fun _ => rfl)) (.inl rfl)) fun _ =>
  .op (.enqueueDma (vRzh b) (.remote (Dev.tc (yp c)) (vRyf b) (.dma (sem1 cc0_scratch16 b))) (.dma (sem1 cc0_scratch17 b))
    (wRzh b) (wRyf b) ⟨⟨rfl, Or.inl rfl⟩, trivial⟩) fun _ => k

/-- Batch `b` from the second-axis neighbour: the same, its right half forwarded along the third. -/
def pY (c : Dev nD) (b : Fin 4) (k : PR F) : PR F :=
  .op (.waitDma2 (sem1 cc0_scratch14 b) (vRy b) (vOut c b) (wRy b) (wOut c b)) fun _ =>
  .op (.waitDma2 (sem1 cc0_scratch15 b) (vOut c b) (vRy b) (wOut c b) (wRy b)) fun _ =>
  .op (.load ryM (rB b).toLoadRect (View.loadsAt_vmem h_S1x64x1024)) fun v =>
  .op (.load outM (rT b (rFy c) (rFy_le c)).toLoadRect (View.loadsAt_vmem h_S1x64x1024)) fun _ =>
  .op (.store outM (rT b (rFy c) (rFy_le c)) (k0_pay24 v) Finset.univ
    (View.stores_vmem h_S1x64x1024 ((hstage0_0 0).storeExact_slice rfl _ (pkT b _ _ (rFy_even c))) (fun _ => rfl)) (.inl rfl)) fun _ =>
  .op (.enqueueDma (vRyh b) (.remote (Dev.tc (zp c)) (vRzf b) (.dma (sem1 cc0_scratch18 b))) (.dma (sem1 cc0_scratch19 b))
    (wRyh b) (wRzf b) ⟨⟨rfl, Or.inl rfl⟩, trivial⟩) fun _ => k

/-- Batch `b`'s diagonal rows, left half then right half: the forward's two waits and the store. -/
def pYf (c : Dev nD) (b : Fin 4) (k : PR F) : PR F :=
  .op (.waitDma2 (sem1 cc0_scratch16 b) (vRyf b) (vRzh b) (wRyf b) (wRzh b)) fun _ =>
  .op (.waitDma2 (sem1 cc0_scratch17 b) (vRzh b) (vRyf b) (wRzh b) (wRyf b)) fun _ =>
  .op (.load ryfM (rF b).toLoadRect (View.loadsAt_vmem h_S1x64x512)) fun v =>
  .op (.load outM (rTh b (rDg c) (rDg_le c) 0).toLoadRect (View.loadsAt_vmem h_S1x64x512)) fun _ =>
  .op (.store outM (rTh b (rDg c) (rDg_le c) 0) (k0_pay29 v) Finset.univ
    (View.stores_vmem h_S1x64x512 ((hstage0_0 0).storeExact_slice rfl _ (pkTh b _ _ 0 (rDg_even c))) (fun _ => rfl)) (.inl rfl)) fun _ => k
def pZf (c : Dev nD) (b : Fin 4) (k : PR F) : PR F :=
  .op (.waitDma2 (sem1 cc0_scratch18 b) (vRzf b) (vRyh b) (wRzf b) (wRyh b)) fun _ =>
  .op (.waitDma2 (sem1 cc0_scratch19 b) (vRyh b) (vRzf b) (wRyh b) (wRzf b)) fun _ =>
  .op (.load rzfM (rF b).toLoadRect (View.loadsAt_vmem h_S1x64x512)) fun v =>
  .op (.load outM (rTh b (rDg c) (rDg_le c) 1).toLoadRect (View.loadsAt_vmem h_S1x64x512)) fun _ =>
  .op (.store outM (rTh b (rDg c) (rDg_le c) 1) (k0_pay34 v) Finset.univ
    (View.stores_vmem h_S1x64x512 ((hstage0_0 0).storeExact_slice rfl _ (pkTh b _ _ 1 (rDg_even c))) (fun _ => rfl)) (.inl rfl)) fun _ => k

/-- A step at each of a list of batches in turn. -/
def forL (l : List (Fin 4)) (f : Fin 4 → PR F → PR F) (k : PR F) : PR F := l.foldr f k
/-- A step at each of the four batches in turn. -/
abbrev forB (f : Fin 4 → PR F → PR F) (k : PR F) : PR F := forL [0, 1, 2, 3] f k

/-- The whole body at device `c`. -/
def prog (c : Dev nD) : PR F :=
  pLdW 0 <| pLdO 0 <| pLdW 1 <| forL [1, 2, 3] pLdO <| pBar c <|
  pWtO 0 <| pWtW 0 <| pX c 0 0 <| pWtW 1 <| pX c 0 1 <|
  forL [1, 2, 3] (fun b k => pWtO b <| pX c b 0 <| pX c b 1 k) <|
  forB (pRe c) <| forB (fun b k => pWtX c b 0 <| pWtX c b 1 <| pMine c b k) <|
  forB (pZ c) <| forB (pY c) <| forB (pYf c) <| forB (pZf c) <| .ret ⟨⟩

set_option maxRecDepth 100000 in
set_option maxHeartbeats 4000000 in
/-- The printed body on the kernel's buffers and semaphores is these steps at the device it reads. -/
theorem body_eq : cc0_body_skel (F := F) aM (Memref.isWhole_whole _) bM (Memref.isWhole_whole _) outM (hstage0_0 0) ovM (Memref.isWhole_whole _) wvM (Memref.isWhole_whole _)
      reM (Memref.isWhole_whole _) sxM (Memref.isWhole_whole _) rxM (Memref.isWhole_whole _) rzM (Memref.isWhole_whole _) ryM (Memref.isWhole_whole _)
      ryfM (Memref.isWhole_whole _) rzfM (Memref.isWhole_whole _) cc0_scratch9 cc0_scratch10 cc0_scratch11 cc0_scratch12 cc0_scratch13 cc0_scratch14 cc0_scratch15
      cc0_scratch16 cc0_scratch17 cc0_scratch18 cc0_scratch19
    = .op .deviceId (fun c => prog c) := by
  exact (rfl : _ = _)

end Cert.TwoPhase

end
-- ==== Proof.Held.lean ====
/-
  A whole buffer held on a set of its indices at named contents, and the rules the steps use on it: splitting, joining,
  loads, stores, and the two forms a transfer's end takes.
-/
module

public import proofs.«01_k».proof.Proof.Model
public import Idealize.ShloMosaic.Lib.WholeRead
public import Idealize.ShloMosaic.Lib.ViewIndex
public import Idealize.ShloMosaic.Lib.Exec.Geometry

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the rounds resource, its duties the three directions, beside the pipeline's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

section Held

variable {sp : Space} {s : Shape} {e : EltTy}

/-- Device `c`'s buffer `m` held at share `q` on the indices `R`, where it reads `X`. -/
def held (c : Dev nD) (m : Memref sig .tc sp s e) (h : m.IsWhole) (q : PosShare TreeShare) (R : Finset s.Idx) (X : s.Idx → Elt F e) : sProp 𝕄 :=
  m.view.loc (c : Thread nD τ) ↦[m.view.setOn R]{q} (h.unread (Val := Elt F) X : Buf (Elt F) (m.view.loc (c : Thread nD τ)))

/-- The same in full, at some contents. -/
def heldAny (c : Dev nD) (m : Memref sig .tc sp s e) (h : m.IsWhole) (R : Finset s.Idx) : sProp 𝕄 :=
  iprop(∃ X : s.Idx → Elt F e, held c m h fullShare R X)

instance held_storable (c : Dev nD) (m : Memref sig .tc sp s e) (h : m.IsWhole) (q : PosShare TreeShare) (R : Finset s.Idx) (X : s.Idx → Elt F e) :
    BI.Storable (upEmb : UEmb _ 𝕄) (held (F := F) c m h q R X) := by unfold held; infer_instance
instance heldAny_storable (c : Dev nD) (m : Memref sig .tc sp s e) (h : m.IsWhole) (R : Finset s.Idx) :
    BI.Storable (upEmb : UEmb _ 𝕄) (heldAny (F := F) c m h R) := by unfold heldAny; infer_instance

variable {c : Dev nD} {m : Memref sig .tc sp s e} {h : m.IsWhole} {q : PosShare TreeShare} {R R' : Finset s.Idx} {X Y : s.Idx → Elt F e}

/-- Contents that read `X` on `R` may be held as `X`. -/
theorem held_of {f : Buf (Elt F) (m.view.loc (c : Thread nD τ))} (hf : ∀ x ∈ R, m.view.read (Elt F) f x = X x) :
    (m.view.loc (c : Thread nD τ) ↦[m.view.setOn R]{q} f : sProp 𝕄) = held c m h q R X :=
  pointsTo_congr fun i hi => by
    obtain ⟨x, hx, rfl⟩ := Finset.mem_map.mp hi
    exact View.eq_of_read_eq (by rw [hf x hx]; exact (congrFun (h.read_unread X) x).symm)

/-- What is held is decided by the contents on the set. -/
theorem held_congr (hX : ∀ x ∈ R, X x = Y x) : held (F := F) c m h q R X = held c m h q R Y :=
  held_of (h := h) fun x hx => (congrFun (h.read_unread X) x).trans (hX x hx)

theorem held_of_eq (e : R = R') : held (F := F) c m h q R X = held c m h q R' X := by rw [e]

theorem held_any : held (F := F) c m h fullShare R X ⊢ heldAny c m h R := by
  unfold heldAny; iintro H; iexists X; iexact H

/-- Splitting and joining along disjoint sets. -/
theorem held_union (hd : Disjoint R R') : held (F := F) c m h q (R ∪ R') X ⊣⊢ iprop(held c m h q R X ∗ held c m h q R' X) := by
  unfold held
  rw [show m.view.setOn (R ∪ R') = m.view.setOn R ∪ m.view.setOn R' from Finset.map_union _ _]
  exact pointsTo_union ((Finset.disjoint_map m.view.emb).mpr hd)

/-- Carving a subset out. -/
theorem held_sdiff (hs : R' ⊆ R) : held (F := F) c m h q R X ⊣⊢ iprop(held c m h q R' X ∗ held c m h q (R \ R') X) := by
  have := held_union (F := F) (c := c) (m := m) (h := h) (q := q) (X := X) (R := R') (R' := R \ R') Finset.disjoint_sdiff
  rwa [Finset.union_sdiff_of_subset hs] at this

/-- Pieces of one buffer at different contents join to the union at some contents. -/
theorem heldAny_union (hd : Disjoint R R') : heldAny (F := F) c m h (R ∪ R') ⊣⊢ iprop(heldAny c m h R ∗ heldAny c m h R') := by
  constructor
  · unfold heldAny; iintro ⟨%X, H⟩
    ihave H := (held_union hd).1 $$ H
    icases H with ⟨H1, H2⟩
    isplitl [H1]; · iexists X; iexact H1
    iexists X; iexact H2
  · unfold heldAny; iintro ⟨⟨%X, H1⟩, ⟨%Y, H2⟩⟩
    classical
    iexists (R.piecewise X Y)
    iapply (held_union hd).2
    isplitl [H1]
    · iapply (Entails.of_eq (held_congr (X := X) (Y := R.piecewise X Y) fun x hx => (Finset.piecewise_eq_of_mem _ _ _ hx).symm)) $$ H1
    · iapply (Entails.of_eq (held_congr (X := Y) (Y := R.piecewise X Y) fun x hx =>
        (Finset.piecewise_eq_of_notMem _ _ _ (Finset.disjoint_right.mp hd hx)).symm)) $$ H2

/-- Half shares. -/
theorem held_share {q₁ q₂ : PosShare TreeShare} (hq : q ∈ PCS.op q₁ q₂) :
    held (F := F) c m h q R X ⊣⊢ iprop(held c m h q₁ R X ∗ held c m h q₂ R X) := by
  unfold held; exact pointsTo_share hq

variable {cs : CoreSpace} {m' : Memref sig .tc cs s e} {h' : m'.IsWhole}

/-- Device `c`'s run of a program in the body. -/
abbrev wpD (c : Dev nD) (k : PR F) (Q : PUnit → sProp 𝕄) : sProp 𝕄 :=
  wp frame (wpE (defs₀ (F := F)) 𝒱₀ (c : Thread nD τ) none) Set.univ k Q

/-- A load of a rectangle inside the held set reads the contents there. -/
theorem wp_ld {r : Rect s} {hl : m'.view.LoadsAt r.toLoadRect} {k : (r.shape.Idx → Elt F e) → PR F}
    (hs : r.set ⊆ R) {Q : PUnit → sProp 𝕄} :
    held c m' h' q R X ⊢ iprop((held c m' h' q R X -∗ wpD c (k fun x => X (r.emb x)) Q) -∗ wpD c (.op (.load m' r.toLoadRect hl) k) Q) := by
  have hv : m'.view.readAt (Elt F) r.toLoadRect (h'.unread (Val := Elt F) X) = fun x => X (r.emb x) :=
    funext fun x => h'.readAt_unread X r.toLoadRect x
  have := wp_load (defs := defs₀ (F := F)) 𝒱₀ (c : Thread nD τ) none Set.univ (Γ := ∅) (m := m') (r := r.toLoadRect) (hl := hl) (k := k) (Q := Q) (S := m'.view.setOn R) (q := q)
    (f := h'.unread (Val := Elt F) X) (Finset.map_subset_map.mpr hs)
  rw [hv] at this
  exact this

/-- A load of a rectangle held at any contents reads something. -/
theorem wp_ld_any {r : Rect s} {hl : m'.view.LoadsAt r.toLoadRect} {k : (r.shape.Idx → Elt F e) → PR F}
    {k' : PR F} (hk : ∀ v, k v = k') (hs : r.set ⊆ R) {Q : PUnit → sProp 𝕄} :
    heldAny c m' h' R ⊢ iprop((heldAny c m' h' R -∗ wpD c k' Q) -∗ wpD c (.op (.load m' r.toLoadRect hl) k) Q) := by
  unfold heldAny; iintro ⟨%X, H⟩ Hk
  iapply (wp_ld hs) $$ H; iintro H
  rw [hk]; iapply Hk; iexists X; iexact H

/-- A store of a whole held rectangle leaves the stored values there. -/
theorem wp_st {r : Rect s} {w : r.shape.Idx → Elt F e} {hx : (m'.access r).Stores Finset.univ} {hm : (Finset.univ : Finset r.shape.Idx) = Finset.univ ∨ ∀ a, r.stride a = 1}
    {k : PUnit → PR F} (hX : ∀ x, X (r.emb x) = w x) {Q : PUnit → sProp 𝕄} :
    heldAny c m' h' r.set ⊢ iprop((held c m' h' fullShare r.set X -∗ wpD c (k ⟨⟩) Q) -∗ wpD c (.op (.store m' r w Finset.univ hx hm) k) Q) := by
  unfold heldAny; iintro ⟨%Y, H⟩ Hk
  have hst := wp_store (defs := defs₀ (F := F)) 𝒱₀ (c : Thread nD τ) none Set.univ (Γ := ∅) (m := m') (r := r) (w := w) (Mk := Finset.univ) (hx := hx) (hm := hm) (k := k) (Q := Q)
    (S := m'.view.setOn r.set) (f := h'.unread (Val := Elt F) Y) (by rw [View.setOn_univ]; exact (View.set_slice m'.view r).subset)
  have he := held_of (F := F) (c := c) (h := h') (q := fullShare) (R := r.set) (X := X) (f := (m'.access r).write (Elt F) (h'.unread (Val := Elt F) Y) w Finset.univ) ?_
  · iapply (show held c m' h' fullShare r.set Y ⊢ iprop((held c m' h' fullShare r.set X -∗ wpD c (k ⟨⟩) Q) -∗ wpD c (.op (.store m' r w Finset.univ hx hm) k) Q) from
      hst.trans (wand_mono_left (wand_mono_left (Entails.of_eq he)))) $$ H
    iexact Hk
  intro x hx
  obtain ⟨y, rfl⟩ : ∃ y, r.emb y = x := by
    rw [← Rect.map_emb_univ] at hx
    obtain ⟨y, -, hy⟩ := Finset.mem_map.mp hx; exact ⟨y, hy⟩
  rw [hX y]
  exact View.read_write_of_mem (v := m'.access r) _ w (Finset.mem_univ y)

end Held

end Cert.TwoPhase

end
-- ==== Proof.Sched.lean ====
/-
  The schedule of the transfers: the names of the cells, what every buffer holds at each stage of the exchange as a
  function of all the devices' arguments, what each cell's round pays and in what order a device pays, and the levels.
-/
module

public import proofs.«01_k».proof.Proof.Held

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The kinds of transfer: half `n` of the first axis' exchange, the exchange with the partner, with the second axis'
    neighbour, and the forwards along the second and the third axis. -/
inductive Kd | x (n : Fin 2) | z | y | yf | zf
deriving DecidableEq

instance : Fintype Kd := ⟨{.x 0, .x 1, .z, .y, .yf, .zf}, fun k => by
  rcases k with n | _ | _ | _ | _
  · revert n; decide
  all_goals decide⟩

/-- A device's own cells: one per local load, and a send and a receive cell per kind and batch. -/
abbrev OK : Type := (Fin 4 ⊕ Fin 2) ⊕ (Bool × Kd × Fin 4)
@[match_pattern] abbrev OK.ldO (b : Fin 4) : OK := .inl (.inl b)
@[match_pattern] abbrev OK.ldW (n : Fin 2) : OK := .inl (.inr n)
@[match_pattern] abbrev OK.snd (k : Kd) (b : Fin 4) : OK := .inr (false, k, b)
@[match_pattern] abbrev OK.rcv (k : Kd) (b : Fin 4) : OK := .inr (true, k, b)

/-- Their semaphores. -/
def osem : OK → SemLoc sig
  | .ldO b => .dma (semL (lO b))
  | .ldW n => .dma (semL (lW n))
  | .snd (.x n) b => .dma (sem2 cc0_scratch10 b n)
  | .rcv (.x n) b => .dma (sem2 cc0_scratch11 b n)
  | .snd .z b => .dma (sem1 cc0_scratch12 b)
  | .rcv .z b => .dma (sem1 cc0_scratch13 b)
  | .snd .y b => .dma (sem1 cc0_scratch14 b)
  | .rcv .y b => .dma (sem1 cc0_scratch15 b)
  | .snd .yf b => .dma (sem1 cc0_scratch16 b)
  | .rcv .yf b => .dma (sem1 cc0_scratch17 b)
  | .snd .zf b => .dma (sem1 cc0_scratch18 b)
  | .rcv .zf b => .dma (sem1 cc0_scratch19 b)

theorem osem_inj : Function.Injective osem := by intro a b; revert a b; decide +kernel
theorem osem_facts : Pipeline.OwnSemFacts spec0 osem := by decide +kernel

/-- All cells: the barrier's (`none`) and the own ones. -/
def csem : Option OK → SemLoc sig
  | none => .reg barS
  | some o => osem o

theorem osem_ne_bar : ∀ o : OK, osem o ≠ .reg barS := by decide +kernel

theorem csem_inj : Function.Injective csem := by
  rintro (_ | a) (_ | b) h
  · rfl
  · exact absurd h.symm (osem_ne_bar b)
  · exact absurd h (osem_ne_bar a)
  · exact congrArg some (osem_inj h)

/-- Device `c`'s cell of a name. -/
def cel (c : Dev nD) (k : Option OK) : GSem nD τ sig := ((c : Thread nD τ), csem k)

theorem cel_inj : Function.Injective fun ck : Dev nD × Option OK => cel ck.1 ck.2 := fun a b h =>
  Prod.ext (congrArg (fun g : GSem nD τ sig => g.1.1) h) (csem_inj (congrArg Prod.snd h))

/-- The name of a semaphore. -/
def dec (s : SemLoc sig) : Option (Option OK) := open Classical in if h : ∃ k, csem k = s then some h.choose else none

theorem dec_csem (k : Option OK) : dec (csem k) = some k := by
  have h : ∃ k', csem k' = csem k := ⟨k, rfl⟩
  unfold dec; rw [dif_pos h]; exact congrArg some (csem_inj h.choose_spec)

/-! ## The neighbours -/

theorem xp_xp (c : Dev nD) : xp (xp c) = c := by revert c; decide +kernel
theorem yp_yp (c : Dev nD) : yp (yp c) = c := by revert c; decide +kernel
theorem zp_zp (c : Dev nD) : zp (zp c) = c := by revert c; decide +kernel
theorem yp_zp (c : Dev nD) : yp (zp c) = zp (yp c) := by revert c; decide +kernel

/-- The neighbour in a direction. -/
def dir : Fin 3 → Dev nD → Dev nD
  | 0 => xp
  | 1 => yp
  | 2 => zp

theorem dir_dir (d : Fin 3) (c : Dev nD) : dir d (dir d c) = c := by
  match d with
  | 0 => exact xp_xp c
  | 1 => exact yp_yp c
  | 2 => exact zp_zp c

/-- The direction a kind of transfer goes in. -/
def Kd.dir : Kd → Fin 3
  | .x _ => 0
  | .z => 2
  | .y => 1
  | .yf => 1
  | .zf => 2

/-- Its other end. -/
abbrev peer (k : Kd) (c : Dev nD) : Dev nD := dir k.dir c

theorem peer_peer (k : Kd) (c : Dev nD) : peer k (peer k c) = c := dir_dir _ c

/-! ## The contents -/

/-- A rank three index from its coordinates. -/
def i3 {d : Fin 3 → ℕ} (a b c : ℕ) (ha : a < d 0) (hb : b < d 1) (hc : c < d 2) : (⟨3, d⟩ : Shape).Idx := fun
  | ⟨0, _⟩ => ⟨a, ha⟩
  | ⟨1, _⟩ => ⟨b, hb⟩
  | ⟨2, _⟩ => ⟨c, hc⟩

/-- Something for each of a list, one after the other. -/
def each {α : Type} : List α → (α → sProp 𝕄) → sProp 𝕄
  | [], _ => iprop(emp)
  | b :: l, P => iprop(P b ∗ each l P)

theorem each_storable {α : Type} (l : List α) (P : α → sProp 𝕄) (h : ∀ a, BI.Storable (upEmb : UEmb _ 𝕄) (P a)) :
    BI.Storable (upEmb : UEmb _ 𝕄) (each (F := F) l P) := by
  induction l with
  | nil => unfold each; infer_instance
  | cons b l ih => unfold each; have := h b; infer_instance

section Contents

variable (A : Dev nD → S4x512x512.Idx → Elt F .f32) (B : Dev nD → S512x1024.Idx → Elt F .f32)

/-- The product device `c` makes for its first axis' neighbour at batch `b`, half `n`. -/
def prodX (c : Dev nD) (b : Fin 4) (n : Fin 2) : S1x128x512.Idx → Elt F .bf16 :=
  k0_pay2 (fun x => A c ((rQp c b).emb x)) (fun x => B c ((rW n).emb x))
/-- The product it keeps at batch `b`. -/
def prodRe (c : Dev nD) (b : Fin 4) : S1x128x1024.Idx → Elt F .f32 :=
  k0_pay11 (fun x => A c ((rQo c b).emb x)) (fun x => B c (rWW.emb x))

/-- The outgoing products, in place. -/
def SX (c : Dev nD) (i : S4x128x1024.Idx) : Elt F .bf16 :=
  prodX A B c (i 0) ⟨(i 2).val / 512, by have := (i 2).isLt; change (i 2).val < 1024 at this; omega⟩
    (i3 0 (i 1).val ((i 2).val % 512) (by decide) (i 1).isLt (Nat.mod_lt _ (by decide)))
/-- The kept products, in place. -/
def RE (c : Dev nD) (i : S4x128x1024.Idx) : Elt F .f32 :=
  prodRe A B c (i 0) (i3 0 (i 1).val (i 2).val (by decide) (i 1).isLt (i 2).isLt)
theorem half_lt (c : Dev nD) (r : ℕ) (h : r < 64) : rHalf c + r < 128 := by rw [rHalf_eq]; omega
/-- What lands from the first axis' neighbour. -/
def RX (c : Dev nD) (i : S4x64x1024.Idx) : Elt F .bf16 :=
  SX A B (xp c) (i3 (i 0).val (rHalf (xp c) + (i 1).val) (i 2).val (i 0).isLt (half_lt _ _ (i 1).isLt) (i 2).isLt)
/-- The device's own rows of the result at batch `b`, and at all batches. -/
def mine (c : Dev nD) (b : Fin 4) : S1x64x1024.Idx → Elt F .bf16 :=
  k0_pay16 (fun x => RE A B c ((rRem c b).emb x)) (fun x => RX A B c ((rB b).emb x))
def MI (c : Dev nD) (i : S4x64x1024.Idx) : Elt F .bf16 :=
  mine A B c (i 0) (i3 0 (i 1).val (i 2).val (by decide) (i 1).isLt (i 2).isLt)
/-- What lands from the partner, from the second axis' neighbour, and from each of them as a forward. -/
def RZ (c : Dev nD) : S4x64x1024.Idx → Elt F .bf16 := MI A B (zp c)
def RY (c : Dev nD) : S4x64x1024.Idx → Elt F .bf16 := MI A B (yp c)
def RYF (c : Dev nD) (i : S4x64x512.Idx) : Elt F .bf16 :=
  RZ A B (yp c) (i3 (i 0).val (i 1).val (i 2).val (i 0).isLt (i 1).isLt (by have := (i 2).isLt; change (i 2).val < 512 at this; show (i 2).val < 1024; omega))
def RZF (c : Dev nD) (i : S4x64x512.Idx) : Elt F .bf16 :=
  RY A B (zp c) (i3 (i 0).val (i 1).val ((i 2).val + 512) (i 0).isLt (i 1).isLt (by have := (i 2).isLt; change (i 2).val < 512 at this; show (i 2).val + 512 < 1024; omega))

/-- Whose rows row `r` of device `c`'s result is. -/
def own (c : Dev nD) (r : ℕ) : Dev nD :=
  if r / 128 = c.val / 4 % 2 then (if r % 128 / 64 = c.val % 2 then c else zp c) else (if r % 128 / 64 = c.val % 2 then yp c else zp (yp c))

/-- Device `c`'s result. -/
def OUT (c : Dev nD) (i : S4x256x1024.Idx) : Elt F .bf16 :=
  MI A B (own c (i 1).val) (i3 (i 0).val ((i 1).val % 64) (i 2).val (i 0).isLt (Nat.mod_lt _ (by decide)) (i 2).isLt)

/-! ## What the cells pay -/

abbrev shL : PosShare TreeShare := fullShare.left
abbrev shR : PosShare TreeShare := fullShare.right

/-- What device `c`'s own cell pays: a load the copy and its source back; a send the source back; a receive what landed. -/
def opay (c : Dev nD) : OK → sProp 𝕄
  | .ldO b => iprop(held c ovM (Memref.isWhole_whole _) fullShare (rO b).set (A c) ∗ held c aM (Memref.isWhole_whole _) fullShare (rO b).set (A c))
  | .ldW n => iprop(held c wvM (Memref.isWhole_whole _) fullShare (rW n).set (B c) ∗ held c bM (Memref.isWhole_whole _) fullShare (rW n).set (B c))
  | .snd (.x n) b => held c sxM (Memref.isWhole_whole _) fullShare (rSxs c b n).set (SX A B c)
  | .rcv (.x n) b => held c rxM (Memref.isWhole_whole _) fullShare (rH b n).set (RX A B c)
  | .snd .z b => held c outM (hstage0_0 0) shL (rT b (rMine c) (rMine_le c)).set (OUT A B c)
  | .rcv .z b => held c rzM (Memref.isWhole_whole _) fullShare (rB b).set (RZ A B c)
  | .snd .y b => held c outM (hstage0_0 0) shR (rT b (rMine c) (rMine_le c)).set (OUT A B c)
  | .rcv .y b => held c ryM (Memref.isWhole_whole _) fullShare (rB b).set (RY A B c)
  | .snd .yf b => held c rzM (Memref.isWhole_whole _) fullShare (rH b 0).set (RZ A B c)
  | .rcv .yf b => held c ryfM (Memref.isWhole_whole _) fullShare (rF b).set (RYF A B c)
  | .snd .zf b => held c ryM (Memref.isWhole_whole _) fullShare (rH b 1).set (RY A B c)
  | .rcv .zf b => held c rzfM (Memref.isWhole_whole _) fullShare (rF b).set (RZF A B c)

/-- Where a transfer lands on device `c`, at any contents. -/
def landB (c : Dev nD) : Kd → Fin 4 → sProp 𝕄
  | .x n, b => heldAny c rxM (Memref.isWhole_whole _) (rH b n).set
  | .z, b => heldAny c rzM (Memref.isWhole_whole _) (rB b).set
  | .y, b => heldAny c ryM (Memref.isWhole_whole _) (rB b).set
  | .yf, b => heldAny c ryfM (Memref.isWhole_whole _) (rF b).set
  | .zf, b => heldAny c rzfM (Memref.isWhole_whole _) (rF b).set

/-- With it, that the receive cell is open. -/
def land (c : Dev nD) (k : Kd) (b : Fin 4) : sProp 𝕄 := iprop(landB c k b ∗ reached ER (cel c (some (.rcv k b))) 0)

/-- All landing places of a kind. -/
def lands (c : Dev nD) (k : Kd) : sProp 𝕄 := each [0, 1, 2, 3] fun b => land c k b

/-- What the neighbour in direction `d` of device `c` announces: its landing places for what comes from `c`. -/
def bpay (c : Dev nD) : Fin 3 → sProp 𝕄
  | 0 => iprop(lands (xp c) (.x 0) ∗ lands (xp c) (.x 1))
  | 1 => iprop(lands (yp c) .y ∗ lands (yp c) .yf)
  | 2 => iprop(lands (zp c) .z ∗ lands (zp c) .zf)

def pay (c : Dev nD) : Option OK → Fin 3 → sProp 𝕄
  | none, d => bpay c d
  | some o, _ => opay A B c o

/-- The credit of a transfer of 64 × 512 elements, and of a local load. -/
def N1 : ℕ := (vRx 0 0).view.dmaCredit
def NL : ℕ := (vO 0).view.dmaCredit
theorem N1_pos : 0 < N1 := by unfold N1; exact View.dmaCredit_pos _ (by decide)
theorem NL_pos : 0 < NL := by unfold NL; exact View.dmaCredit_pos _ (by decide)

def Kd.amt : Kd → ℕ
  | .x _ => N1
  | .z => 2 * N1
  | .y => 2 * N1
  | .yf => N1
  | .zf => N1

def oamt : OK → ℕ
  | .ldO _ => NL
  | .ldW _ => NL
  | .snd k _ => k.amt
  | .rcv k _ => k.amt

theorem oamt_pos (o : OK) : 0 < oamt o := by
  have h1 := N1_pos; have hL := NL_pos
  have h2 : 0 < 2 * N1 := Nat.mul_pos (by decide) h1
  rcases o with (b | n) | ⟨_ | _, k, b⟩
  · exact hL
  · exact hL
  all_goals cases k <;> first | exact h1 | exact h2

def amt : Option OK → ℕ
  | none => 1
  | some o => oamt o

theorem amt_pos (k : Option OK) : 0 < amt k := by
  cases k with
  | none => exact Nat.one_pos
  | some o => exact oamt_pos o

/-- The schedule: one round; a barrier cell has a duty per direction, every other cell one. -/
def Rd : Rounds.Schedule (GSem nD τ sig) (Fin 3) 𝕄 where
  duties g r := if g.1.2 = .tc ∧ r = 0 then (match dec g.2 with | some none => Finset.univ | some (some _) => {0} | none => ∅) else ∅
  unitless _ := False
  amount g _ _ := match dec g.2 with | some k => amt k | none => 1
  payload g _ d := match dec g.2 with | some k => pay A B g.1.1 k d | none => iprop(emp)
  amount_pos g _ _ _ := by
    show 0 < (match dec g.2 with | some k => amt k | none => 1)
    cases dec g.2 with
    | none => exact Nat.one_pos
    | some k => exact amt_pos k

instance opay_storable (c : Dev nD) (o : OK) : BI.Storable (upEmb : UEmb _ 𝕄) (opay A B c o) := by
  rcases o with (b | n) | ⟨_ | _, k, b⟩
  · show BI.Storable upEmb (iprop(_ ∗ _)); infer_instance
  · show BI.Storable upEmb (iprop(_ ∗ _)); infer_instance
  all_goals cases k <;> exact held_storable ..

instance landB_storable (c : Dev nD) (k : Kd) (b : Fin 4) : BI.Storable (upEmb : UEmb _ 𝕄) (landB (F := F) c k b) := by
  cases k <;> exact heldAny_storable ..
instance land_storable (c : Dev nD) (k : Kd) (b : Fin 4) : BI.Storable (upEmb : UEmb _ 𝕄) (land (F := F) c k b) := by unfold land; infer_instance
instance lands_storable (c : Dev nD) (k : Kd) : BI.Storable (upEmb : UEmb _ 𝕄) (lands (F := F) c k) := by unfold lands; exact each_storable _ _ fun b => land_storable c k b
instance bpay_storable (c : Dev nD) (d : Fin 3) : BI.Storable (upEmb : UEmb _ 𝕄) (bpay (F := F) c d) := by
  match d with
  | 0 => unfold bpay; infer_instance
  | 1 => unfold bpay; infer_instance
  | 2 => unfold bpay; infer_instance

instance Rd_storable (g : GSem nD τ sig) (r : ℕ) (d : Fin 3) : BI.Storable (upEmb : UEmb _ 𝕄) ((Rd A B).payload g r d) := by
  show BI.Storable upEmb (match dec g.2 with | some k => pay A B g.1.1 k d | none => iprop(emp))
  cases dec g.2 with
  | none => infer_instance
  | some k =>
    cases k with
    | none => exact bpay_storable g.1.1 d
    | some o => exact opay_storable A B g.1.1 o

theorem duties_def (g : GSem nD τ sig) (r : ℕ) : (Rd A B).duties g r =
    if g.1.2 = .tc ∧ r = 0 then (match dec g.2 with | some none => (Finset.univ : Finset (Fin 3)) | some (some _) => {0} | none => ∅) else ∅ := rfl
theorem amount_def (g : GSem nD τ sig) (r : ℕ) (d : Fin 3) : (Rd A B).amount g r d = match dec g.2 with | some k => amt k | none => 1 := rfl
theorem payload_def (g : GSem nD τ sig) (r : ℕ) (d : Fin 3) :
    (Rd A B).payload g r d = match dec g.2 with | some k => pay A B g.1.1 k d | none => iprop(emp) := rfl
theorem duties_bar (c : Dev nD) : (Rd A B).duties (cel c none) 0 = Finset.univ := by
  rw [duties_def, cel, dec_csem, if_pos ⟨rfl, rfl⟩]
theorem duties_own (c : Dev nD) (o : OK) : (Rd A B).duties (cel c (some o)) 0 = {0} := by
  rw [duties_def, cel, dec_csem, if_pos ⟨rfl, rfl⟩]
theorem duties_later (g : GSem nD τ sig) : ∀ r, 1 ≤ r → (Rd A B).duties g r = ∅ := fun r hr => by
  rw [duties_def, if_neg fun h => by omega]
theorem amount_cel (c : Dev nD) (k : Option OK) (d : Fin 3) : (Rd A B).amount (cel c k) 0 d = amt k := by
  rw [amount_def, cel, dec_csem]
theorem payload_cel (c : Dev nD) (k : Option OK) (d : Fin 3) : (Rd A B).payload (cel c k) 0 d = pay A B c k d := by
  rw [payload_def, cel, dec_csem]
theorem expect_own (c : Dev nD) (o : OK) : (Rd A B).expect (cel c (some o)) 0 = oamt o := by
  unfold Schedule.expect Schedule.amountOf; rw [duties_own, Finset.sum_singleton, amount_cel]; rfl
theorem expect_bar (c : Dev nD) : (Rd A B).expect (cel c none) 0 = 3 := by
  unfold Schedule.expect Schedule.amountOf
  rw [duties_bar, Finset.sum_congr rfl fun d _ => amount_cel A B c none d]; rfl
theorem rest_own (c : Dev nD) (o : OK) : bigSep ((Rd A B).duties (cel c (some o)) 0 \ ∅) (fun d => (Rd A B).payload (cel c (some o)) 0 d) = opay A B c o := by
  rw [Finset.sdiff_empty, duties_own, bigSep_singleton, payload_cel]; rfl
theorem rest_bar (c : Dev nD) : bigSep ((Rd A B).duties (cel c none) 0 \ ∅) (fun d => (Rd A B).payload (cel c none) 0 d)
    = iprop(bpay c 0 ∗ bpay c 1 ∗ bpay c 2) := by
  rw [Finset.sdiff_empty, duties_bar, bigSep_univ_eq_bigSepL [0, 1, 2] (by decide) (by decide), bigSepL_cons_cons, bigSepL_cons_cons, bigSepL_singleton,
    payload_cel, payload_cel, payload_cel]
  rfl

end Contents

/-! ## What a device owes, in the order it pays, and the levels -/

/-- A payment: to a neighbour's barrier cell, or to a neighbour's receive cell. -/
inductive PK | bar (d : Fin 3) | tr (k : Kd) (b : Fin 4)

def PK.cell (c : Dev nD) : PK → GSem nD τ sig
  | .bar d => cel (dir d c) none
  | .tr k b => cel (peer k c) (some (.rcv k b))
def PK.amt : PK → ℕ
  | .bar _ => 1
  | .tr k _ => k.amt

/-- What device `c` owes when it still has to pay `l` in order. -/
def dueOf (c : Dev nD) : List PK → CellTallies nD τ sig Unit
  | [] => 0
  | p :: l => dueOf c l + tallyAt (p.cell c) () p.amt

def Kd.lv : Kd → ℕ
  | .x _ => 2
  | .z => 3
  | .y => 3
  | .yf => 4
  | .zf => 4
def PK.lv : PK → ℕ
  | .bar _ => 1
  | .tr k _ => k.lv

def clv : Option OK → ℕ
  | none => 1
  | some (.rcv k _) => k.lv
  | some _ => 0

def L (g : GSem nD τ sig) : Finset Unit := if g.1.2 = .tc then {()} else ∅
/-- The level of a cell: its kind's for a receive cell, 1 for a barrier cell, 0 for every other. -/
def lv (g : GSem nD τ sig) (_ : Unit) : ℕ := match dec g.2 with | some k => clv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cel (c : Dev nD) (k : Option OK) (u : Unit) : lv (cel c k) u = clv k := by
  show (match dec (csem k) with | some k => clv k | none => 0) = _
  rw [dec_csem]
theorem lv_cell (c : Dev nD) (p : PK) (u : Unit) : lv (p.cell c) u = p.lv := by
  cases p with
  | bar d => exact lv_cel _ _ _
  | tr k b => exact lv_cel _ _ _

/-- Whatever is owed is a payment of the list. -/
theorem dueOf_pos {c : Dev nD} {l : List PK} {g : GSem nD τ sig} {u : Unit} (h : 0 < dueOf c l g u) : ∃ p ∈ l, g = p.cell c := by
  induction l with
  | nil => exact absurd h (Nat.lt_irrefl 0)
  | cons p l ih =>
    unfold dueOf at h
    rw [Pi.add_apply, Finsupp.add_apply, tallyAt_apply] at h
    by_cases hp : g = p.cell c ∧ u = ()
    · exact ⟨p, List.mem_cons_self, hp.1⟩
    · rw [if_neg hp, Nat.add_zero] at h
      obtain ⟨p', hp', e⟩ := ih h
      exact ⟨p', List.mem_cons_of_mem _ hp', e⟩

theorem cell_mem_L (c : Dev nD) (p : PK) (u : Unit) : u ∈ L (p.cell c) := by
  cases p <;> exact (L_tc _ _).symm ▸ Finset.mem_singleton_self _

/-- A device may wait on a cell of its own whose level is below everything it still has to pay. -/
theorem mayWait (c : Dev nD) (k : Option OK) (l : List PK) (h : ∀ p ∈ l, clv k < p.lv) :
    (levAts L lv : sProp 𝕄) ⊢ MayWait (c : Thread nD τ) (csem k) () (dueOf c l) :=
  MayOwe.of_cut (L := L) (lev := lv) (clv k) (fun p hp => by rw [Finset.mem_singleton.mp hp, L_tc]; exact Finset.mem_singleton_self _)
    (fun g u hg => by obtain ⟨p, -, rfl⟩ := dueOf_pos hg; exact cell_mem_L c p u)
    (fun p hp => by rw [Finset.mem_singleton.mp hp]; exact (lv_cel c k ()).le)
    (fun g u hg => by obtain ⟨p, hp, rfl⟩ := dueOf_pos hg; rw [lv_cell]; exact h p hp)

end Cert.TwoPhase

end
-- ==== Proof.Rules.lean ====
/-
  The rules of the body's steps for any cell: a send, a local copy, a wait, the pair of waits of a transfer, a loop.
-/
module

public import proofs.«01_k».proof.Proof.Sched

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32)

/-! ## What stays in hand for every cell -/

/-- What all devices share: every cell's invariant, the barrier cells open, the levels. -/
def recs (K : GSem nD τ sig → ℕ) : sProp 𝕄 :=
  iprop((bigSep Finset.univ fun ck : Dev nD × Option OK => cellInv ER (Rd A B) (K (cel ck.1 ck.2)) (cel ck.1 ck.2))
    ∗ (bigSep Finset.univ fun c : Dev nD => reached ER (cel c none) 0) ∗ levAts L lv)

instance recs_persistent (K : GSem nD τ sig → ℕ) : BI.Persistent (recs A B K : sProp 𝕄) := by unfold recs; infer_instance

theorem recs_inv (K : GSem nD τ sig → ℕ) (c : Dev nD) (k : Option OK) : recs A B K ⊢ cellInv ER (Rd A B) (K (cel c k)) (cel c k) := by
  classical
  have h : (bigSep Finset.univ fun ck : Dev nD × Option OK => cellInv ER (Rd A B) (K (cel ck.1 ck.2)) (cel ck.1 ck.2))
    ⊢ cellInv ER (Rd A B) (K (cel c k)) (cel c k) := bigSep_elim (i := (c, k)) (Finset.mem_univ _)
  unfold recs; iintro ⟨#H, -, -⟩
  iapply h $$ H
theorem recs_bar (K : GSem nD τ sig → ℕ) (c : Dev nD) : recs A B K ⊢ reached ER (cel c none) 0 := by
  have h : (bigSep Finset.univ fun c : Dev nD => (reached ER (cel c none) 0 : sProp 𝕄)) ⊢ reached ER (cel c none) 0 := bigSep_elim (Finset.mem_univ c)
  unfold recs; iintro ⟨-, #H, -⟩
  iapply h $$ H
theorem recs_mayWait (K : GSem nD τ sig → ℕ) (c : Dev nD) (o : OK) (l : List PK) (h : ∀ p ∈ l, clv (some o) < p.lv) :
    recs A B K ⊢ MayWait (c : Thread nD τ) (osem o) () (dueOf c l) := by
  have hm := mayWait (F := F) c (some o) l h
  unfold recs
  iintro ⟨-, -, #H⟩
  iapply hm
  iexact H

/-- An own cell at round `r`; its credit; its duty's token. -/
def at_ (c : Dev nD) (o : OK) (r : ℕ) : sProp 𝕄 := atPos ER (cel c (some o)) r ∅ 0
def cr (c : Dev nD) (o : OK) : sProp 𝕄 := cred (tallyAt (cel c (some o)) () (oamt o))
def tok (c : Dev nD) (o : OK) : sProp 𝕄 := dutyTok ER (cel c (some o)) 0 0
def rch (c : Dev nD) (o : OK) : sProp 𝕄 := reached ER (cel c (some o)) 0

/-- What device `c` still owes, whatever it has waited for. -/
def ow (c : Dev nD) (l : List PK) : sProp 𝕄 := iprop(∃ W, owes (c : Thread nD τ) (dueOf c l) W)

/-- What a send of kind `k` spends, beside its buffers. -/
def tx (c : Dev nD) (k : Kd) (b : Fin 4) : sProp 𝕄 := iprop(tok c (.snd k b) ∗ rch c (.snd k b) ∗ tok (peer k c) (.rcv k b))
/-- What the two waits of kind `k` spend, beside the send's credit, and what they leave. -/
def aw (c : Dev nD) (k : Kd) (b : Fin 4) : sProp 𝕄 := iprop(at_ c (.snd k b) 0 ∗ at_ c (.rcv k b) 0 ∗ cr c (.rcv k b))
def dn (c : Dev nD) (k : Kd) (b : Fin 4) : sProp 𝕄 := iprop(at_ c (.snd k b) 1 ∗ at_ c (.rcv k b) 1)

/-! ## The rules of the steps, for any cell -/

section Rules

variable {A B} {K : GSem nD τ sig → ℕ} {c : Dev nD} {sp sp' : Space} {s : Shape} {e : EltTy} {kk : PUnit → PR F} {l : List PK}

/-- A send of kind `k` pays its receive cell; its own send cell's credit comes back. -/
theorem wp_snd {Q : PUnit → sProp 𝕄} {k : Kd} {b : Fin 4} {p : Dev nD} {src : Memref sig .tc sp s e} {dst : Memref sig .tc sp' s e} {sS sR : SemLoc sig}
    {hsc : dst.view.ref.isScScratch = false} {hsrc : src.view.WordExact} {hdst : dst.view.WordExact}
    {hsem : DmaTarget.Typed sp sR (.remote (Dev.tc p : Thread nD τ) dst sS hsc)} {q : PosShare TreeShare} {fs : Buf (Elt F) (src.view.loc (c : Thread nD τ))}
    (hp : peer k c = p) (hS : sS = osem (.snd k b)) (hR : sR = osem (.rcv k b)) (hN : dst.view.amount sR = k.amt)
    (hpay : (src.view.loc (c : Thread nD τ) ↦[src.view.set]{q} fs) ⊢ opay A B c (.snd k b))
    (hland : landB (F := F) p k b ⊢ iprop(∃ fd : Buf (Elt F) (dst.view.loc (p : Thread nD τ)), dst.view.loc (p : Thread nD τ) ↦[dst.view.set]{fullShare} fd))
    (hpay' : ∀ fd : Buf (Elt F) (dst.view.loc (p : Thread nD τ)), (dst.view.loc (p : Thread nD τ) ↦[dst.view.set]{fullShare}
        (dst.view.write (Elt F) fd (src.view.read (Elt F) fs) Finset.univ)) ⊢ opay A B p (.rcv k b)) :
    iprop(recs A B K ∗ (src.view.loc (c : Thread nD τ) ↦[src.view.set]{q} fs) ∗ land p k b ∗ tx c k b ∗ ow c (.tr k b :: l))
      ⊢ iprop(((cr c (.snd k b) ∗ ow c l) -∗ wpD c (kk ⟨⟩) Q)
          -∗ wpD c (.op (.enqueueDma src (.remote (Dev.tc p : Thread nD τ) dst sS hsc) sR hsrc hdst hsem) kk) Q) := by
  subst hp hS hR
  unfold land tx ow tok rch cr
  iintro ⟨#HR, Hs, ⟨Hl, #Hr'⟩, ⟨Ht, #Hr, Ht'⟩, ⟨%W, HO⟩⟩ Hk
  ihave Hl := hland $$ Hl
  icases Hl with ⟨%fd, Hd⟩
  ihave #HI := (recs_inv A B K c (some (.snd k b))) $$ HR
  ihave #HI' := (recs_inv A B K (peer k c) (some (.rcv k b))) $$ HR
  iapply (Rounds.wp_send_pointsTo 𝒱₀ ER (Rd A B) (c : Thread nD τ) none (κ₁ := K (cel c (some (.snd k b)))) (κ₂ := K (cel (peer k c) (some (.rcv k b))))
    (r₁ := 0) (r₂ := 0) (d₁ := 0) (d₂ := 0) (fd := fd) (fs := fs) (q := q)
    (by exact (duties_own A B c (.snd k b)).symm ▸ Finset.mem_singleton_self _)
    (by exact (duties_own A B (peer k c) (.rcv k b)).symm ▸ Finset.mem_singleton_self _)
    () () k.amt hN (amount_cel A B c (some (.snd k b)) 0) (amount_cel A B (peer k c) (some (.rcv k b)) 0) (dueOf c l) rfl (W := W)
    (hpay.trans (Entails.of_eq (payload_cel A B c (some (.snd k b)) 0).symm))
    ((hpay' fd).trans (Entails.of_eq (payload_cel A B (peer k c) (some (.rcv k b)) 0).symm))) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A local load's copy: its cell's credit comes back. -/
theorem wp_cp {Q : PUnit → sProp 𝕄} {o : OK} {src : Memref sig .tc sp s e} {dst : Memref sig .tc sp' s e} {sem : SemLoc sig} {hsrc : src.view.WordExact} {hdst : dst.view.WordExact}
    {hsem : DmaTarget.Typed sp sem (.here dst : DmaTarget nD τ sig (.tc : Proc τ) sp' s e)} {fs : Buf (Elt F) (src.view.loc (c : Thread nD τ))}
    (hS : sem = osem o) (hN : dst.view.amount sem = oamt o) {P : sProp 𝕄}
    (hdest : P ⊢ iprop(∃ fd : Buf (Elt F) (dst.view.loc (c : Thread nD τ)), dst.view.loc (c : Thread nD τ) ↦[dst.view.set]{fullShare} fd))
    (hpay : ∀ fd : Buf (Elt F) (dst.view.loc (c : Thread nD τ)), iprop((dst.view.loc (c : Thread nD τ) ↦[dst.view.set]{fullShare}
        (dst.view.write (Elt F) fd (src.view.read (Elt F) fs) Finset.univ)) ∗ (src.view.loc (c : Thread nD τ) ↦[src.view.set]{fullShare} fs)) ⊢ opay A B c o) :
    iprop(recs A B K ∗ (src.view.loc (c : Thread nD τ) ↦[src.view.set]{fullShare} fs) ∗ P ∗ tok c o ∗ rch c o)
      ⊢ iprop((cr c o -∗ wpD c (kk ⟨⟩) Q) -∗ wpD c (.op (.enqueueDma src (.here dst) sem hsrc hdst hsem) kk) Q) := by
  subst hS
  unfold tok rch cr
  iintro ⟨#HR, Hs, HP, Ht, #Hr⟩ Hk
  ihave Hl := hdest $$ HP
  icases Hl with ⟨%fd, Hd⟩
  ihave #HI := (recs_inv A B K c (some o)) $$ HR
  iapply (Rounds.wp_copy_pointsTo 𝒱₀ ER (Rd A B) (c : Thread nD τ) none (src := src) (dst := dst) (sem := osem o) (q := fullShare)
      (fs := fs) (fd := fd) (r := 0) (d := 0) (κ := K (cel c (some o)))
      (by exact (duties_own A B c o).symm ▸ Finset.mem_singleton_self _) () (oamt o) hN
      (amount_cel A B c (some o) 0) ((hpay fd).trans (Entails.of_eq (payload_cel A B c (some o) 0).symm))) $$ [Hs Hd Ht]
  · isplitr; · iexact HI
    isplitl [Hs]; · iexact Hs
    isplitl [Hd]; · iexact Hd
    isplitl [Ht]; · iexact Ht
    iexact Hr
  iintro Hc
  iapply Hk; iexact Hc

/-- A wait on an own cell below everything still owed: what the cell pays comes in. -/
theorem wp_wt {Q : PUnit → sProp 𝕄} {o : OK} {sm : DmaSem sig} {src : Memref sig .tc sp s e} {dst : Memref sig .tc sp' s e} {hsrc : src.view.WordExact} {hdst : dst.view.WordExact}
    (hS : SemLoc.dma sm = osem o) (hN : dst.view.dmaCredit = oamt o) (hl : ∀ p ∈ l, clv (some o) < p.lv) :
    iprop(recs A B K ∗ at_ c o 0 ∗ cr c o ∗ ow c l)
      ⊢ iprop(((opay A B c o ∗ at_ c o 1 ∗ ow c l) -∗ wpD c (kk ⟨⟩) Q) -∗ wpD c (.op (.waitDma2 sm src dst hsrc hdst) kk) Q) := by
  unfold at_ cr ow
  iintro ⟨#HR, Ha, Hc, ⟨%W, HO⟩⟩ Hk
  ihave #HI := (recs_inv A B K c (some o)) $$ HR
  have hg : (((c : Thread nD τ), SemLoc.dma sm) : GSem nD τ sig) = cel c (some o) := by rw [hS]; rfl
  have hk : 0 + dst.view.dmaCredit = (Rd A B).expect ((c : Thread nD τ), SemLoc.dma sm) 0 := by rw [hg, expect_own, hN]; exact Nat.zero_add _
  have hw := Rounds.wp_wait_rest_token 𝒱₀ ER (Rd A B) (c : Thread nD τ) none (κ := K (cel c (some o))) (k := kk) (Q := Q)
      (wpE_waitDma2_eq (src := src) (dst := dst) (sem := sm) (hsrc := hsrc) (hdst := hdst) (defs := defs₀ (F := F)) 𝒱₀ (c : Thread nD τ) none Set.univ) (Set.mem_univ _) () (O := dueOf c l) (W := W) (R := 0) (m := 0) (T := ∅)
      hk
  rw [hg, hN, hS, rest_own] at hw
  iapply hw $$ [Ha Hc HO]
  · isplitr; · iexact HI
    isplitl [Hc]; · iexact Hc
    isplitl [HO]; · iexact HO
    isplitr; · iapply (recs_mayWait A B K c o l hl); iexact HR
    iexact Ha
  iintro ⟨HO, Ha, -, Hp⟩
  iapply Hk
  isplitl [Hp]; · iexact Hp
  isplitl [Ha]; · iexact Ha
  iexists _; iexact HO

/-- The two waits of a kind's transfer: the source back and what landed. -/
theorem wp_pair {Q : PUnit → sProp 𝕄} {k : Kd} {b : Fin 4} {sm sm' : DmaSem sig} {src dst : Memref sig .tc .vmem s e}
    {h1 h4 : src.view.WordExact} {h2 h3 : dst.view.WordExact}
    (hS : SemLoc.dma sm = osem (.snd k b)) (hR : SemLoc.dma sm' = osem (.rcv k b)) (hN : src.view.dmaCredit = k.amt) (hN' : dst.view.dmaCredit = k.amt)
    (hl : ∀ p ∈ l, k.lv < p.lv) :
    iprop(recs A B K ∗ aw c k b ∗ cr c (.snd k b) ∗ ow c l)
      ⊢ iprop(((opay A B c (.snd k b) ∗ opay A B c (.rcv k b) ∗ dn c k b ∗ ow c l) -∗ wpD c (kk ⟨⟩) Q)
        -∗ wpD c (.op (.waitDma2 sm dst src h3 h1) fun _ => .op (.waitDma2 sm' src dst h4 h2) kk) Q) := by
  unfold aw dn
  iintro ⟨#HR, ⟨Ha, Ha', Hc'⟩, Hc, HO⟩ Hk
  iapply (wp_wt (A := A) (B := B) (K := K) (l := l) hS hN (fun p hp => Nat.lt_of_le_of_lt (Nat.zero_le _) (hl p hp))) $$ [Ha Hc HO]
  · isplitr; · iexact HR
    isplitl [Ha]; · iexact Ha
    isplitl [Hc] <;> iassumption
  iintro ⟨Hp, Ha, HO⟩
  iapply (wp_wt (A := A) (B := B) (K := K) (l := l) hR hN' hl) $$ [Ha' Hc' HO]
  · isplitr; · iexact HR
    isplitl [Ha']; · iexact Ha'
    isplitl [Hc'] <;> iassumption
  iintro ⟨Hp', Ha', HO⟩
  iapply Hk
  isplitl [Hp]; · iexact Hp
  isplitl [Hp']; · iexact Hp'
  isplitl [Ha Ha']; · isplitl [Ha] <;> iassumption
  iexact HO

/-- A step at each of a list of batches, from its rule at one. -/
theorem wp_forL {Q : PUnit → sProp 𝕄} {f : Fin 4 → PR F → PR F} {I : List (Fin 4) → sProp 𝕄} {P P' : Fin 4 → sProp 𝕄}
    (step : ∀ (b : Fin 4) (bs : List (Fin 4)) (k : PR F), iprop(recs A B K ∗ I (b :: bs) ∗ P b) ⊢ iprop(((I bs ∗ P' b) -∗ wpD c k Q) -∗ wpD c (f b k) Q))
    (bs : List (Fin 4)) (k : PR F) :
    iprop(recs A B K ∗ I bs ∗ each bs P) ⊢ iprop(((I [] ∗ each bs P') -∗ wpD c k Q) -∗ wpD c (forL bs f k) Q) := by
  induction bs with
  | nil =>
    unfold each
    iintro ⟨-, HI, -⟩ Hk
    iapply Hk; isplitl [HI]; · iexact HI
    iempintro
  | cons b bs ih =>
    rw [show forL (b :: bs) f k = f b (forL bs f k) from rfl, show each (b :: bs) P = iprop(P b ∗ each bs P) from rfl,
      show each (b :: bs) P' = iprop(P' b ∗ each bs P') from rfl]
    iintro ⟨#HR, HI, Hb, Hs⟩ Hk
    iapply (step b bs (forL bs f k)) $$ [HI Hb]
    · isplitr; · iexact HR
      isplitl [HI] <;> iassumption
    iintro ⟨HI, Hb⟩
    iapply ih $$ [HI Hs]
    · isplitr; · iexact HR
      isplitl [HI] <;> iassumption
    iintro ⟨HI, Hs⟩
    iapply Hk
    isplitl [HI]; · iexact HI
    isplitl [Hb] <;> iassumption

end Rules

end Cert.TwoPhase

end
-- ==== Proof.Ends.lean ====
/-
  The rectangles held as the ends of the transfers.
-/
module

public import proofs.«01_k».proof.Proof.Rules

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A held rectangle as a transfer's end -/

section Ends

variable {sp : Space} {s s' : Shape} {e : EltTy} {c : Dev nD} {m : Memref sig .tc sp s e} {h : m.IsWhole} {q : PosShare TreeShare} {X : s.Idx → Elt F e}

/-- A held rectangle is the end that slices it out; squeezed as well. -/
theorem held_slice {r : Rect s} {hr} : held c m h q r.set X
    = ((m.slice r hr).view.loc (c : Thread nD τ) ↦[(m.slice r hr).view.set]{q} (h.unread (Val := Elt F) X : Buf (Elt F) (m.view.loc (c : Thread nD τ))) : sProp 𝕄) := by
  rw [show (m.slice r hr).view.set = m.view.setOn r.set from View.set_slice m.view r]; rfl
theorem held_sq {r : Rect s} {hr} {hq : r.shape.Squeezes s'} : held c m h q r.set X
    = (((m.slice r hr).squeeze s' hq).view.loc (c : Thread nD τ) ↦[((m.slice r hr).squeeze s' hq).view.set]{q}
        (h.unread (Val := Elt F) X : Buf (Elt F) (m.view.loc (c : Thread nD τ))) : sProp 𝕄) := by
  rw [show ((m.slice r hr).squeeze s' hq).view.set = m.view.setOn r.set from (View.set_reshape _ _).trans (View.set_slice m.view r)]; rfl

theorem heldAny_slice {r : Rect s} {hr} : heldAny c m h r.set
    ⊢ iprop(∃ fd : Buf (Elt F) ((m.slice r hr).view.loc (c : Thread nD τ)), ((m.slice r hr).view.loc (c : Thread nD τ) ↦[(m.slice r hr).view.set]{fullShare} fd : sProp 𝕄)) := by
  unfold heldAny; iintro ⟨%Z, H⟩
  iexists (h.unread (Val := Elt F) Z)
  iapply (Entails.of_eq (held_slice (c := c) (h := h) (X := Z) (hr := hr))) $$ H
theorem heldAny_sq {r : Rect s} {hr} {hq : r.shape.Squeezes s'} : heldAny c m h r.set
    ⊢ iprop(∃ fd : Buf (Elt F) (((m.slice r hr).squeeze s' hq).view.loc (c : Thread nD τ)),
      (((m.slice r hr).squeeze s' hq).view.loc (c : Thread nD τ) ↦[((m.slice r hr).squeeze s' hq).view.set]{fullShare} fd : sProp 𝕄)) := by
  unfold heldAny; iintro ⟨%Z, H⟩
  iexists (h.unread (Val := Elt F) Z)
  iapply (Entails.of_eq (held_sq (c := c) (h := h) (X := Z) (hr := hr) (hq := hq))) $$ H

theorem mem_rect {r : Rect s} {x : s.Idx} (hx : x ∈ r.set) : ∃ z, r.emb z = x := by
  rw [← Rect.map_emb_univ] at hx
  obtain ⟨z, -, hz⟩ := Finset.mem_map.mp hx; exact ⟨z, hz⟩

/-- What such an end reads. -/
theorem read_slice {r : Rect s} {hr} (z : r.shape.Idx) :
    (m.slice r hr).view.read (Elt F) (h.unread (Val := Elt F) X : Buf (Elt F) (m.view.loc (c : Thread nD τ))) z = X (r.emb z) :=
  congrFun (h.read_unread X) (r.emb z)
theorem read_sq {r : Rect s} {hr} {hq : r.shape.Squeezes s'} (y : s'.Idx) :
    ((m.slice r hr).squeeze s' hq).view.read (Elt F) (h.unread (Val := Elt F) X : Buf (Elt F) (m.view.loc (c : Thread nD τ))) y
      = X (r.emb (Shape.reshapeEquiv hq.numel_eq y)) :=
  congrFun (h.read_unread X) (r.emb (Shape.reshapeEquiv hq.numel_eq y))

/-- What a transfer leaves at its landing end is held there as contents that read the moved values. -/
theorem landed_slice {r : Rect s} {hr} (fd : Buf (Elt F) ((m.slice r hr).view.loc (c : Thread nD τ))) {w : r.shape.Idx → Elt F e}
    (hX : ∀ z, X (r.emb z) = w z) :
    ((m.slice r hr).view.loc (c : Thread nD τ) ↦[(m.slice r hr).view.set]{fullShare} ((m.slice r hr).view.write (Elt F) fd w Finset.univ) : sProp 𝕄)
      = held c m h fullShare r.set X := by
  rw [show (m.slice r hr).view.set = m.view.setOn r.set from View.set_slice m.view r]
  refine held_of (c := c) (m := m) (h := h) (R := r.set) fun x hx => ?_
  obtain ⟨z, rfl⟩ := mem_rect hx
  rw [hX]
  exact View.read_write_of_mem (v := (m.slice r hr).view) fd w (Finset.mem_univ z)
theorem landed_sq {r : Rect s} {hr} {hq : r.shape.Squeezes s'} (fd : Buf (Elt F) (((m.slice r hr).squeeze s' hq).view.loc (c : Thread nD τ)))
    {w : s'.Idx → Elt F e} (hX : ∀ y, X (r.emb (Shape.reshapeEquiv hq.numel_eq y)) = w y) :
    (((m.slice r hr).squeeze s' hq).view.loc (c : Thread nD τ) ↦[((m.slice r hr).squeeze s' hq).view.set]{fullShare}
        (((m.slice r hr).squeeze s' hq).view.write (Elt F) fd w Finset.univ) : sProp 𝕄)
      = held c m h fullShare r.set X := by
  rw [show ((m.slice r hr).squeeze s' hq).view.set = m.view.setOn r.set from (View.set_reshape _ _).trans (View.set_slice m.view r)]
  refine held_of (c := c) (m := m) (h := h) (R := r.set) fun x hx => ?_
  obtain ⟨z, rfl⟩ := mem_rect hx
  obtain ⟨y, rfl⟩ := (Shape.reshapeEquiv hq.numel_eq).surjective z
  rw [hX]
  exact View.read_write_of_mem (v := ((m.slice r hr).squeeze s' hq).view) fd w (Finset.mem_univ y)

end Ends

end Cert.TwoPhase

end
-- ==== Proof.Cont.lean ====
/-
  The contents at the rectangles the steps store, read and move.
-/
module

public import proofs.«01_k».proof.Proof.Sched
public import Idealize.ShloMosaic.Lib.Pipeline.Value

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32)

/-- Two entries of a family of rank three blocks are equal when their block and their coordinates are. -/
theorem fam_eq {ι α : Type} {d : Fin 3 → ℕ} (f : ι → (⟨3, d⟩ : Shape).Idx → α) {u v : ι} {x y : (⟨3, d⟩ : Shape).Idx} (hu : u = v)
    (h0 : (x 0).val = (y 0).val) (h1 : (x 1).val = (y 1).val) (h2 : (x 2).val = (y 2).val) : f u x = f v y := by
  rw [hu, Shape.idx3_ext h0 h1 h2]

/-! ## What the stores leave -/

theorem sx_at (c : Dev nD) (b : Fin 4) (n : Fin 2) (x : S1x128x512.Idx) : SX A B c ((rSx b n).emb x) = prodX A B c b n x := by
  have h0 : (x 0).val < 1 := (x 0).isLt
  have h2 : (x 2).val < 512 := (x 2).isLt
  have hn : (⟨(512 * n.val + 1 * (x 2).val) / 512, by have := n.isLt; omega⟩ : Fin 2) = n := Fin.ext (by show (512 * n.val + 1 * (x 2).val) / 512 = n.val; omega)
  show prodX A B c ((rSx b n).emb x 0) ⟨(512 * n.val + 1 * (x 2).val) / 512, _⟩ _ = _
  rw [hn]
  exact fam_eq (fun b => prodX A B c b n) (Fin.ext (by show b.val + 1 * (x 0).val = b.val; omega)) (by show 0 = (x 0).val; omega)
    (by show 0 + 1 * (x 1).val = (x 1).val; omega) (by show (512 * n.val + 1 * (x 2).val) % 512 = (x 2).val; omega)

theorem re_at (c : Dev nD) (b : Fin 4) (x : S1x128x1024.Idx) : RE A B c ((rRe b).emb x) = prodRe A B c b x := by
  have h0 : (x 0).val < 1 := (x 0).isLt
  exact fam_eq (prodRe A B c) (Fin.ext (by show b.val + 1 * (x 0).val = b.val; omega)) (by show 0 = (x 0).val; omega)
    (by show 0 + 1 * (x 1).val = (x 1).val; omega) (by show 0 + 1 * (x 2).val = (x 2).val; omega)

theorem own_mine (c : Dev nD) : ∀ r < 64, own c (rMine c + r) = c := fun r hr => by
  unfold own; rw [rMine_eq, if_pos (by omega), if_pos (by omega)]
theorem own_fz (c : Dev nD) : ∀ r < 64, own c (rFz c + r) = zp c := fun r hr => by
  unfold own; rw [rFz_eq, if_pos (by omega), if_neg (by omega)]
theorem own_fy (c : Dev nD) : ∀ r < 64, own c (rFy c + r) = yp c := fun r hr => by
  unfold own; rw [rFy_eq, if_neg (by omega), if_pos (by omega)]
theorem own_dg (c : Dev nD) : ∀ r < 64, own c (rDg c + r) = zp (yp c) := fun r hr => by
  unfold own; rw [rDg_eq, if_neg (by omega), if_neg (by omega)]
theorem rMine_64 (c : Dev nD) : rMine c % 64 = 0 := by rw [rMine_eq]; omega
theorem rFz_64 (c : Dev nD) : rFz c % 64 = 0 := by rw [rFz_eq]; omega
theorem rFy_64 (c : Dev nD) : rFy c % 64 = 0 := by rw [rFy_eq]; omega
theorem rDg_64 (c : Dev nD) : rDg c % 64 = 0 := by rw [rDg_eq]; omega

/-- A block of 64 rows of the result is one device's own rows. -/
theorem out_row {c d : Dev nD} {b : Fin 4} {r : ℕ} {h : r ≤ 192} (hr : r % 64 = 0) (ho : ∀ k < 64, own c (r + k) = d) (x : S1x64x1024.Idx) :
    OUT A B c ((rT b r h).emb x) = MI A B d ((rB b).emb x) := by
  have h1 : (x 1).val < 64 := (x 1).isLt
  refine fam_eq (MI A B) (x := i3 _ _ _ _ _ _) ?_ (by show b.val + 1 * (x 0).val = b.val + 1 * (x 0).val; rfl) (by show (r + 1 * (x 1).val) % 64 = 0 + 1 * (x 1).val; omega)
    (by show 0 + 1 * (x 2).val = 0 + 1 * (x 2).val; rfl)
  show own c (r + 1 * (x 1).val) = d
  rw [Nat.one_mul]; exact ho _ h1
/-- And so is a column half of it. -/
theorem out_rowh {c d : Dev nD} {b : Fin 4} {r : ℕ} {h : r ≤ 192} (n : Fin 2) (hr : r % 64 = 0) (ho : ∀ k < 64, own c (r + k) = d) (x : S1x64x512.Idx) :
    OUT A B c ((rTh b r h n).emb x) = MI A B d ((rH b n).emb x) := by
  have h1 : (x 1).val < 64 := (x 1).isLt
  refine fam_eq (MI A B) (x := i3 _ _ _ _ _ _) ?_ (by show b.val + 1 * (x 0).val = b.val + 1 * (x 0).val; rfl) (by show (r + 1 * (x 1).val) % 64 = 0 + 1 * (x 1).val; omega)
    (by show 512 * n.val + 1 * (x 2).val = 512 * n.val + 1 * (x 2).val; rfl)
  show own c (r + 1 * (x 1).val) = d
  rw [Nat.one_mul]; exact ho _ h1

theorem mi_at (c : Dev nD) (b : Fin 4) (x : S1x64x1024.Idx) : MI A B c ((rB b).emb x) = mine A B c b x := by
  have h0 : (x 0).val < 1 := (x 0).isLt
  exact fam_eq (mine A B c) (Fin.ext (by show b.val + 1 * (x 0).val = b.val; omega)) (by show 0 = (x 0).val; omega)
    (by show 0 + 1 * (x 1).val = (x 1).val; omega) (by show 0 + 1 * (x 2).val = (x 2).val; omega)

theorem out_mine (c : Dev nD) (b : Fin 4) (x : S1x64x1024.Idx) : OUT A B c ((rT b (rMine c) (rMine_le c)).emb x) = mine A B c b x :=
  (out_row A B (rMine_64 c) (own_mine c) x).trans (mi_at A B c b x)

theorem pay20_id (v : S1x64x1024.Idx → Elt F .bf16) : k0_pay20 v = v := shapeCast_shapeCast v _ _
theorem pay24_id (v : S1x64x1024.Idx → Elt F .bf16) : k0_pay24 v = v := shapeCast_shapeCast v _ _
theorem pay29_id (v : S1x64x512.Idx → Elt F .bf16) : k0_pay29 v = v := shapeCast_shapeCast v _ _
theorem pay34_id (v : S1x64x512.Idx → Elt F .bf16) : k0_pay34 v = v := shapeCast_shapeCast v _ _

theorem out_fz (c : Dev nD) (b : Fin 4) (x : S1x64x1024.Idx) :
    OUT A B c ((rT b (rFz c) (rFz_le c)).emb x) = k0_pay20 (fun x => RZ A B c ((rB b).emb x)) x := by
  rw [pay20_id]; exact out_row A B (rFz_64 c) (own_fz c) x
theorem out_fy (c : Dev nD) (b : Fin 4) (x : S1x64x1024.Idx) :
    OUT A B c ((rT b (rFy c) (rFy_le c)).emb x) = k0_pay24 (fun x => RY A B c ((rB b).emb x)) x := by
  rw [pay24_id]; exact out_row A B (rFy_64 c) (own_fy c) x

/-! ## What the transfers move -/

theorem rx_at (c : Dev nD) (b : Fin 4) (n : Fin 2) (x : S1x64x512.Idx) : RX A B (xp c) ((rH b n).emb x) = SX A B c ((rSxs c b n).emb x) := by
  unfold RX
  refine fam_eq (SX A B) (x := i3 _ _ _ _ _ _) (xp_xp c) (by show b.val + 1 * (x 0).val = b.val + 1 * (x 0).val; rfl) ?_
    (by show 512 * n.val + 1 * (x 2).val = 512 * n.val + 1 * (x 2).val; rfl)
  show rHalf (xp (xp c)) + (0 + 1 * (x 1).val) = rHalf c + 1 * (x 1).val
  rw [xp_xp]; omega
theorem rz_at (c : Dev nD) (b : Fin 4) (x : S1x64x1024.Idx) : RZ A B (zp c) ((rB b).emb x) = OUT A B c ((rT b (rMine c) (rMine_le c)).emb x) := by
  unfold RZ; rw [zp_zp]; exact (out_row A B (rMine_64 c) (own_mine c) x).symm
theorem ry_at (c : Dev nD) (b : Fin 4) (x : S1x64x1024.Idx) : RY A B (yp c) ((rB b).emb x) = OUT A B c ((rT b (rMine c) (rMine_le c)).emb x) := by
  unfold RY; rw [yp_yp]; exact (out_row A B (rMine_64 c) (own_mine c) x).symm
/-- The forwards carry the neighbour's left and right halves. -/
theorem ryf_eq (c : Dev nD) (b : Fin 4) (x : S1x64x512.Idx) : RYF A B c ((rF b).emb x) = RZ A B (yp c) ((rH b 0).emb x) := by
  unfold RYF
  exact fam_eq (RZ A B) (x := i3 _ _ _ _ _ _) rfl rfl rfl (by show 0 + 1 * (x 2).val = 512 * 0 + 1 * (x 2).val; omega)
theorem rzf_eq (c : Dev nD) (b : Fin 4) (x : S1x64x512.Idx) : RZF A B c ((rF b).emb x) = RY A B (zp c) ((rH b 1).emb x) := by
  unfold RZF
  exact fam_eq (RY A B) (x := i3 _ _ _ _ _ _) rfl rfl rfl (by show 0 + 1 * (x 2).val + 512 = 512 * 1 + 1 * (x 2).val; omega)
theorem ryf_at (c : Dev nD) (b : Fin 4) (x : S1x64x512.Idx) : RYF A B (yp c) ((rF b).emb x) = RZ A B c ((rH b 0).emb x) := by
  rw [ryf_eq, yp_yp]
theorem rzf_at (c : Dev nD) (b : Fin 4) (x : S1x64x512.Idx) : RZF A B (zp c) ((rF b).emb x) = RY A B c ((rH b 1).emb x) := by
  rw [rzf_eq, zp_zp]

theorem out_dg0 (c : Dev nD) (b : Fin 4) (x : S1x64x512.Idx) :
    OUT A B c ((rTh b (rDg c) (rDg_le c) 0).emb x) = k0_pay29 (fun x => RYF A B c ((rF b).emb x)) x := by
  rw [pay29_id, ryf_eq]; exact out_rowh A B 0 (rDg_64 c) (own_dg c) x
theorem out_dg1 (c : Dev nD) (b : Fin 4) (x : S1x64x512.Idx) :
    OUT A B c ((rTh b (rDg c) (rDg_le c) 1).emb x) = k0_pay34 (fun x => RZF A B c ((rF b).emb x)) x := by
  rw [pay34_id, rzf_eq]; unfold RY; rw [yp_zp]; exact out_rowh A B 1 (rDg_64 c) (own_dg c) x

end Cert.TwoPhase

end
-- ==== Proof.Moves.lean ====
/-
  The transfers' credits, the rectangles inside one another, and a send between held rectangles.
-/
module

public import proofs.«01_k».proof.Proof.Ends
public import proofs.«01_k».proof.Proof.Cont

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → S4x512x512.Idx → Elt F .f32} {B : Dev nD → S512x1024.Idx → Elt F .f32} {K : GSem nD τ sig → ℕ}

/-! ## The credits -/

theorem crX (b : Fin 4) (n : Fin 2) : (vRx b n).view.dmaCredit = N1 := by unfold N1; rfl
theorem crSx (c : Dev nD) (b : Fin 4) (n : Fin 2) : (vSx c b n).view.dmaCredit = N1 := by unfold N1; rfl
theorem crOut (c : Dev nD) (b : Fin 4) : (vOut c b).view.dmaCredit = 2 * N1 := by unfold N1; rfl
theorem crRz (b : Fin 4) : (vRz b).view.dmaCredit = 2 * N1 := by unfold N1; rfl
theorem crRy (b : Fin 4) : (vRy b).view.dmaCredit = 2 * N1 := by unfold N1; rfl
theorem crRzh (b : Fin 4) : (vRzh b).view.dmaCredit = N1 := by unfold N1; rfl
theorem crRyh (b : Fin 4) : (vRyh b).view.dmaCredit = N1 := by unfold N1; rfl
theorem crRyf (b : Fin 4) : (vRyf b).view.dmaCredit = N1 := by unfold N1; rfl
theorem crRzf (b : Fin 4) : (vRzf b).view.dmaCredit = N1 := by unfold N1; rfl
theorem crO (b : Fin 4) : (vO b).view.dmaCredit = NL := by unfold NL; rfl
theorem crW (n : Fin 2) : (vW n).view.dmaCredit = NL := by unfold NL; rfl

theorem PK.lv_pos (p : PK) : 0 < p.lv := by
  rcases p with _ | ⟨k, _⟩
  · exact Nat.one_pos
  · cases k <;> exact Nat.succ_pos _

/-! ## The rectangles inside one another -/

/-- A rank three rectangle lies inside another when it does along every axis. -/
theorem sub3 {d : Fin 3 → ℕ} {o z o' z' : Fin 3 → ℕ} {h h'} (H : ∀ a, o' a ≤ o a ∧ o a + z a ≤ o' a + z' a) :
    (Rect.unit (s := ⟨3, d⟩) o z h).set ⊆ (Rect.unit (s := ⟨3, d⟩) o' z' h').set := fun x hx => by
  rw [Rect.mem_set_unit] at hx ⊢
  intro a; have := H a; have := hx a; omega

theorem ax3 {P : Fin 3 → Prop} (h0 : P 0) (h1 : P 1) (h2 : P 2) : ∀ a, P a := fun a => by
  match a with
  | ⟨0, _⟩ => exact h0
  | ⟨1, _⟩ => exact h1
  | ⟨2, _⟩ => exact h2

theorem rQp_sub (c : Dev nD) (b : Fin 4) : (rQp c b).set ⊆ (rO b).set := sub3 <| ax3 (P := fun a => (_ ∧ _ : Prop))
  ⟨le_rfl, le_rfl⟩ ⟨le_rfl, le_rfl⟩ ⟨Nat.zero_le _, by have := qPeer_le c; show qPeer c + 128 ≤ 0 + 512; omega⟩
theorem rQo_sub (c : Dev nD) (b : Fin 4) : (rQo c b).set ⊆ (rO b).set := sub3 <| ax3 (P := fun a => (_ ∧ _ : Prop))
  ⟨le_rfl, le_rfl⟩ ⟨le_rfl, le_rfl⟩ ⟨Nat.zero_le _, by have := qOwn_le c; show qOwn c + 128 ≤ 0 + 512; omega⟩
theorem rSxs_sub (c : Dev nD) (b : Fin 4) (n : Fin 2) : (rSxs c b n).set ⊆ (rSx b n).set := sub3 <| ax3 (P := fun a => (_ ∧ _ : Prop))
  ⟨le_rfl, le_rfl⟩ ⟨Nat.zero_le _, by show rHalf c + 64 ≤ 0 + 128; rw [rHalf_eq]; omega⟩ ⟨le_rfl, le_rfl⟩
theorem rRem_sub (c : Dev nD) (b : Fin 4) : (rRem c b).set ⊆ (rRe b).set := sub3 <| ax3 (P := fun a => (_ ∧ _ : Prop))
  ⟨le_rfl, le_rfl⟩ ⟨Nat.zero_le _, by show rHalf c + 64 ≤ 0 + 128; rw [rHalf_eq]; omega⟩ ⟨le_rfl, le_rfl⟩
theorem rH_sub (b : Fin 4) (n : Fin 2) : (rH b n).set ⊆ (rB b).set := sub3 <| ax3 (P := fun a => (_ ∧ _ : Prop))
  ⟨le_rfl, le_rfl⟩ ⟨le_rfl, le_rfl⟩ ⟨Nat.zero_le _, by have := n.isLt; show 512 * n.val + 512 ≤ 0 + 1024; omega⟩

theorem rH_disj (b : Fin 4) : Disjoint (rH b 0).set (rH b 1).set := Finset.disjoint_left.mpr fun x hx hy => by
  rw [Rect.mem_set_unit] at hx hy
  have h1 : 512 * 1 ≤ (x 2).val := (hy 2).1
  have h2 : (x 2).val < 512 * 0 + 512 := (hx 2).2
  omega
theorem rH_union (b : Fin 4) : (rH b 0).set ∪ (rH b 1).set = (rB b).set := by
  refine Finset.Subset.antisymm (Finset.union_subset (rH_sub b 0) (rH_sub b 1)) fun x hx => ?_
  rw [Finset.mem_union, Rect.mem_set_unit, Rect.mem_set_unit]
  rw [Rect.mem_set_unit] at hx
  have h0 := hx 0
  have h1 := hx 1
  have h2 : (0 : ℕ) ≤ (x 2).val ∧ (x 2).val < 0 + 1024 := hx 2
  by_cases h : (x 2).val < 512
  · exact .inl (ax3 h0 h1 ⟨by show 512 * 0 ≤ (x 2).val; omega, by show (x 2).val < 512 * 0 + 512; omega⟩)
  · exact .inr (ax3 h0 h1 ⟨by show 512 * 1 ≤ (x 2).val; omega, by show (x 2).val < 512 * 1 + 512; omega⟩)

/-! ## A send between held rectangles -/

/-- A send of a held rectangle to a rectangle of the same shape on the neighbour. -/
theorem wp_move {Q : PUnit → sProp 𝕄} {c p : Dev nD} {k : Kd} {b : Fin 4} {kk : PUnit → PR F} {l : List PK} {sp sp' : Space} {s s₁ s' : Shape} {e : EltTy}
    {m : Memref sig .tc sp s e} {h : m.IsWhole} {m₁ : Memref sig .tc sp' s₁ e} {h₁ : m₁.IsWhole} {q : PosShare TreeShare}
    {X : s.Idx → Elt F e} {Y : s₁.Idx → Elt F e} {r : Rect s} {r₁ : Rect s₁} {hr : ∀ a, r.stride a = 1} {hr₁ : ∀ a, r₁.stride a = 1}
    {hq : r.shape.Squeezes s'} {hq₁ : r₁.shape.Squeezes s'} {sS sR : SemLoc sig}
    {hsc : ((m₁.slice r₁ hr₁).squeeze s' hq₁).view.ref.isScScratch = false} {hsrc : ((m.slice r hr).squeeze s' hq).view.WordExact}
    {hdst : ((m₁.slice r₁ hr₁).squeeze s' hq₁).view.WordExact}
    {hsem : DmaTarget.Typed sp sR (.remote (Dev.tc p : Thread nD τ) ((m₁.slice r₁ hr₁).squeeze s' hq₁) sS hsc)}
    (hp : peer k c = p) (hS : sS = osem (.snd k b)) (hR : sR = osem (.rcv k b)) (hN : ((m₁.slice r₁ hr₁).squeeze s' hq₁).view.amount sR = k.amt)
    (hpay : opay A B c (.snd k b) = held c m h q r.set X) (hland : landB (F := F) p k b = heldAny p m₁ h₁ r₁.set)
    (hpay' : opay A B p (.rcv k b) = held p m₁ h₁ fullShare r₁.set Y)
    (hXY : ∀ y : s'.Idx, Y (r₁.emb (Shape.reshapeEquiv hq₁.numel_eq y)) = X (r.emb (Shape.reshapeEquiv hq.numel_eq y))) :
    iprop(recs A B K ∗ held c m h q r.set X ∗ land p k b ∗ tx c k b ∗ ow c (.tr k b :: l))
      ⊢ iprop(((cr c (.snd k b) ∗ ow c l) -∗ wpD c (kk ⟨⟩) Q)
          -∗ wpD c (.op (.enqueueDma ((m.slice r hr).squeeze s' hq) (.remote (Dev.tc p : Thread nD τ) ((m₁.slice r₁ hr₁).squeeze s' hq₁) sS hsc) sR hsrc hdst hsem) kk) Q) := by
  rw [held_sq (hr := hr) (hq := hq)]
  refine wp_snd hp hS hR hN (Entails.of_eq ?_) ?_ fun fd => Entails.of_eq ?_
  · rw [hpay, held_sq (hr := hr) (hq := hq)]
  · rw [hland]; exact heldAny_sq
  · rw [hpay']; exact landed_sq fd fun y => (hXY y).trans (read_sq (h := h) (X := X) y).symm

end Cert.TwoPhase

end
-- ==== Proof.Steps.lean ====
/-
  The rule of each step of the body, at any device and any batch.
-/
module

public import proofs.«01_k».proof.Proof.Moves

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32) {K : GSem nD τ sig → ℕ}

/-! ## The buffers' pieces, by name -/

abbrev hO (c : Dev nD) (b : Fin 4) : sProp 𝕄 := held c ovM (Memref.isWhole_whole _) fullShare (rO b).set (A c)
abbrev hW (c : Dev nD) (n : Fin 2) : sProp 𝕄 := held c wvM (Memref.isWhole_whole _) fullShare (rW n).set (B c)
abbrev hWW (c : Dev nD) : sProp 𝕄 := held c wvM (Memref.isWhole_whole _) fullShare rWW.set (B c)
abbrev hSrest (c : Dev nD) (b : Fin 4) (n : Fin 2) : sProp 𝕄 :=
  held c sxM (Memref.isWhole_whole _) fullShare ((rSx b n).set \ (rSxs c b n).set) (SX A B c)
abbrev hRe (c : Dev nD) (b : Fin 4) : sProp 𝕄 := held c reM (Memref.isWhole_whole _) fullShare (rRe b).set (RE A B c)
abbrev hRx (c : Dev nD) (b : Fin 4) : sProp 𝕄 := held c rxM (Memref.isWhole_whole _) fullShare (rB b).set (RX A B c)
abbrev anyOut (c : Dev nD) (r : Rect S4x256x1024) : sProp 𝕄 := heldAny (F := F) c outM (hstage0_0 0) r.set
abbrev hOut (c : Dev nD) (r : Rect S4x256x1024) : sProp 𝕄 := held c outM (hstage0_0 0) fullShare r.set (OUT A B c)

theorem rcv_z (c : Dev nD) (b : Fin 4) : opay A B c (.rcv .z b) = held c rzM (Memref.isWhole_whole _) fullShare (rB b).set (RZ A B c) := rfl
theorem rcv_y (c : Dev nD) (b : Fin 4) : opay A B c (.rcv .y b) = held c ryM (Memref.isWhole_whole _) fullShare (rB b).set (RY A B c) := rfl
theorem rcv_yf (c : Dev nD) (b : Fin 4) : opay A B c (.rcv .yf b) = held c ryfM (Memref.isWhole_whole _) fullShare (rF b).set (RYF A B c) := rfl
theorem rcv_zf (c : Dev nD) (b : Fin 4) : opay A B c (.rcv .zf b) = held c rzfM (Memref.isWhole_whole _) fullShare (rF b).set (RZF A B c) := rfl
section Steps

variable {A B} {c : Dev nD} {b : Fin 4} {n : Fin 2} {l : List PK} {k : PR F} {Q : PUnit → sProp (MT nD τ sig Unit (Elt F) ℕ UU ℕ)}

/-! ## The loads -/

theorem step_LdO : iprop(recs A B K ∗ held c aM (Memref.isWhole_whole _) fullShare (rO b).set (A c) ∗ heldAny c ovM (Memref.isWhole_whole _) (rO b).set
      ∗ tok c (.ldO b) ∗ rch c (.ldO b))
    ⊢ iprop((cr c (.ldO b) -∗ wpD c k Q) -∗ wpD c (pLdO b k) Q) := by
  unfold pLdO
  rw [held_sq (c := c) (m := aM) (r := rO b) (hr := fun _ => rfl) (hq := squeezes_S1x512x512_S512x512)]
  exact wp_cp (A := A) (B := B) (K := K) (kk := fun _ => k) (Q := Q) (o := .ldO b) (sem := .dma (semL (lO b))) rfl (crO b) heldAny_sq fun fd => BIClass.sep_mono
    (Entails.of_eq (landed_sq fd fun y => (read_sq (m := aM) (h := Memref.isWhole_whole _) (X := A c) (r := rO b) (hr := fun _ => rfl) (hq := squeezes_S1x512x512_S512x512) y).symm))
    (Entails.of_eq (held_sq (c := c) (m := aM) (r := rO b) (hr := fun _ => rfl) (hq := squeezes_S1x512x512_S512x512)).symm)

theorem step_LdW : iprop(recs A B K ∗ held c bM (Memref.isWhole_whole _) fullShare (rW n).set (B c) ∗ heldAny c wvM (Memref.isWhole_whole _) (rW n).set
      ∗ tok c (.ldW n) ∗ rch c (.ldW n))
    ⊢ iprop((cr c (.ldW n) -∗ wpD c k Q) -∗ wpD c (pLdW n k) Q) := by
  unfold pLdW
  rw [held_slice (c := c) (m := bM) (r := rW n) (hr := fun _ => rfl)]
  exact wp_cp (A := A) (B := B) (K := K) (kk := fun _ => k) (Q := Q) (o := .ldW n) (sem := .dma (semL (lW n))) rfl (crW n) heldAny_slice fun fd => BIClass.sep_mono
    (Entails.of_eq (landed_slice fd fun y => (read_slice (m := bM) (h := Memref.isWhole_whole _) (X := B c) (r := rW n) (hr := fun _ => rfl) y).symm))
    (Entails.of_eq (held_slice (c := c) (m := bM) (r := rW n) (hr := fun _ => rfl)).symm)

theorem step_WtO : iprop(recs A B K ∗ at_ c (.ldO b) 0 ∗ cr c (.ldO b) ∗ ow c l)
    ⊢ iprop(((opay A B c (.ldO b) ∗ at_ c (.ldO b) 1 ∗ ow c l) -∗ wpD c k Q) -∗ wpD c (pWtO b k) Q) := by
  unfold pWtO
  exact wp_wt (A := A) (B := B) (K := K) (kk := fun _ => k) (Q := Q) (o := .ldO b) rfl (crO b) fun p _ => p.lv_pos
theorem step_WtW : iprop(recs A B K ∗ at_ c (.ldW n) 0 ∗ cr c (.ldW n) ∗ ow c l)
    ⊢ iprop(((opay A B c (.ldW n) ∗ at_ c (.ldW n) 1 ∗ ow c l) -∗ wpD c k Q) -∗ wpD c (pWtW n k) Q) := by
  unfold pWtW
  exact wp_wt (A := A) (B := B) (K := K) (kk := fun _ => k) (Q := Q) (o := .ldW n) rfl (crW n) fun p _ => p.lv_pos

/-! ## The first exchange -/

theorem step_X : iprop(recs A B K ∗ hO A c b ∗ hW B c n ∗ heldAny c sxM (Memref.isWhole_whole _) (rSx b n).set
      ∗ land (xp c) (.x n) b ∗ tx c (.x n) b ∗ ow c (.tr (.x n) b :: l))
    ⊢ iprop(((hO A c b ∗ hW B c n ∗ hSrest A B c b n ∗ cr c (.snd (.x n) b) ∗ ow c l) -∗ wpD c k Q) -∗ wpD c (pX c b n k) Q) := by
  unfold pX
  iintro ⟨#HR, Ho, Hw, Hs, Hl, Ht, HO⟩ Hk
  iapply (wp_ld (rQp_sub c b)) $$ Ho; iintro Ho
  iapply (wp_ld (Finset.Subset.refl _)) $$ Hw; iintro Hw
  iapply (wp_ld_any (fun _ => rfl) (Finset.Subset.refl _)) $$ Hs; iintro Hs
  iapply (wp_st (X := SX A B c) (sx_at A B c b n)) $$ Hs; iintro Hs
  ihave Hs := (held_sdiff (rSxs_sub c b n)).1 $$ Hs
  icases Hs with ⟨Hs, Hrest⟩
  iapply (wp_move (A := A) (B := B) (K := K) (k := .x n) (b := b) (l := l) rfl rfl rfl (crX b n) rfl rfl rfl (fun y => rx_at A B c b n _)) $$ [Hs Hl Ht HO]
  · isplitr; · iexact HR
    isplitl [Hs]; · iexact Hs
    isplitl [Hl]; · iexact Hl
    isplitl [Ht] <;> iassumption
  iintro ⟨Hc, HO⟩
  iapply Hk
  isplitl [Ho]; · iexact Ho
  isplitl [Hw]; · iexact Hw
  isplitl [Hrest]; · iexact Hrest
  isplitl [Hc] <;> iassumption

theorem step_Re : iprop(hO A c b ∗ hWW B c ∗ heldAny c reM (Memref.isWhole_whole _) (rRe b).set)
    ⊢ iprop(((hO A c b ∗ hWW B c ∗ hRe A B c b) -∗ wpD c k Q) -∗ wpD c (pRe c b k) Q) := by
  unfold pRe
  iintro ⟨Ho, Hw, Hs⟩ Hk
  iapply (wp_ld (rQo_sub c b)) $$ Ho; iintro Ho
  iapply (wp_ld (Finset.Subset.refl _)) $$ Hw; iintro Hw
  iapply (wp_ld_any (fun _ => rfl) (Finset.Subset.refl _)) $$ Hs; iintro Hs
  iapply (wp_st (X := RE A B c) (re_at A B c b)) $$ Hs; iintro Hs
  iapply Hk
  isplitl [Ho]; · iexact Ho
  isplitl [Hw] <;> iassumption

theorem step_WtX (hl : ∀ p ∈ l, 2 < p.lv) : iprop(recs A B K ∗ aw c (.x n) b ∗ cr c (.snd (.x n) b) ∗ ow c l)
    ⊢ iprop(((opay A B c (.snd (.x n) b) ∗ opay A B c (.rcv (.x n) b) ∗ dn c (.x n) b ∗ ow c l) -∗ wpD c k Q) -∗ wpD c (pWtX c b n k) Q) := by
  unfold pWtX
  exact wp_pair (A := A) (B := B) (K := K) (kk := fun _ => k) (Q := Q) (k := .x n) (b := b) rfl rfl (crSx c b n) (crX b n) hl

/-! ## The own rows and the second exchange -/

theorem step_Mine : iprop(recs A B K ∗ hRe A B c b ∗ hRx A B c b ∗ anyOut c (rT b (rMine c) (rMine_le c))
      ∗ (land (zp c) .z b ∗ tx c .z b) ∗ (land (yp c) .y b ∗ tx c .y b) ∗ ow c (.tr .z b :: .tr .y b :: l))
    ⊢ iprop(((hRe A B c b ∗ hRx A B c b ∗ cr c (.snd .z b) ∗ cr c (.snd .y b) ∗ ow c l) -∗ wpD c k Q) -∗ wpD c (pMine c b k) Q) := by
  unfold pMine
  iintro ⟨#HR, He, Hx, Ho, ⟨Hlz, Htz⟩, ⟨Hly, Hty⟩, HO⟩ Hk
  iapply (wp_ld (rRem_sub c b)) $$ He; iintro He
  iapply (wp_ld (Finset.Subset.refl _)) $$ Hx; iintro Hx
  iapply (wp_ld_any (fun _ => rfl) (Finset.Subset.refl _)) $$ Ho; iintro Ho
  iapply (wp_st (X := OUT A B c) (out_mine A B c b)) $$ Ho; iintro Ho
  ihave Ho := (held_share (PosShare.mem_left_op_right fullShare)).1 $$ Ho
  icases Ho with ⟨Hol, Hor⟩
  iapply (wp_move (A := A) (B := B) (K := K) (k := .z) (b := b) rfl rfl rfl (crRz b) rfl rfl rfl (fun y => rz_at A B c b _)) $$ [Hol Hlz Htz HO]
  · isplitr; · iexact HR
    isplitl [Hol]; · iexact Hol
    isplitl [Hlz]; · iexact Hlz
    isplitl [Htz] <;> iassumption
  iintro ⟨Hcz, HO⟩
  iapply (wp_move (A := A) (B := B) (K := K) (k := .y) (b := b) rfl rfl rfl (crRy b) rfl rfl rfl (fun y => ry_at A B c b _)) $$ [Hor Hly Hty HO]
  · isplitr; · iexact HR
    isplitl [Hor]; · iexact Hor
    isplitl [Hly]; · iexact Hly
    isplitl [Hty] <;> iassumption
  iintro ⟨Hcy, HO⟩
  iapply Hk
  isplitl [He]; · iexact He
  isplitl [Hx]; · iexact Hx
  isplitl [Hcz]; · iexact Hcz
  isplitl [Hcy] <;> iassumption

/-! ## The neighbours' rows and their forwards -/

theorem step_Z (hl : ∀ p ∈ PK.tr .yf b :: l, 3 < p.lv) : iprop(recs A B K ∗ aw c .z b ∗ cr c (.snd .z b) ∗ anyOut c (rT b (rFz c) (rFz_le c))
      ∗ (land (yp c) .yf b ∗ tx c .yf b) ∗ ow c (.tr .yf b :: l))
    ⊢ iprop(((opay A B c (.snd .z b) ∗ dn c .z b ∗ hOut A B c (rT b (rFz c) (rFz_le c))
      ∗ held c rzM (Memref.isWhole_whole _) fullShare ((rB b).set \ (rH b 0).set) (RZ A B c) ∗ cr c (.snd .yf b) ∗ ow c l) -∗ wpD c k Q) -∗ wpD c (pZ c b k) Q) := by
  unfold pZ
  iintro ⟨#HR, Ha, Hc, Ho, ⟨Hlf, Htf⟩, HO⟩ Hk
  iapply (wp_pair (A := A) (B := B) (K := K) (k := .z) (b := b) rfl rfl (crOut c b) (crRz b) hl) $$ [Ha Hc HO]
  · isplitr; · iexact HR
    isplitl [Ha]; · iexact Ha
    isplitl [Hc] <;> iassumption
  iintro ⟨Hs, Hr, Hd, HO⟩
  ihave Hr := (Entails.of_eq (rcv_z A B c b)) $$ Hr
  iapply (wp_ld (Finset.Subset.refl _)) $$ Hr; iintro Hr
  iapply (wp_ld_any (fun _ => rfl) (Finset.Subset.refl _)) $$ Ho; iintro Ho
  iapply (wp_st (X := OUT A B c) (out_fz A B c b)) $$ Ho; iintro Ho
  ihave Hr := (held_sdiff (rH_sub b 0)).1 $$ Hr
  icases Hr with ⟨Hr, Hrest⟩
  iapply (wp_move (A := A) (B := B) (K := K) (k := .yf) (b := b) (l := l) rfl rfl rfl (crRyf b) rfl rfl rfl (fun y => ryf_at A B c b _)) $$ [Hr Hlf Htf HO]
  · isplitr; · iexact HR
    isplitl [Hr]; · iexact Hr
    isplitl [Hlf]; · iexact Hlf
    isplitl [Htf] <;> iassumption
  iintro ⟨Hc, HO⟩
  iapply Hk
  isplitl [Hs]; · iexact Hs
  isplitl [Hd]; · iexact Hd
  isplitl [Ho]; · iexact Ho
  isplitl [Hrest]; · iexact Hrest
  isplitl [Hc] <;> iassumption

theorem step_Y (hl : ∀ p ∈ PK.tr .zf b :: l, 3 < p.lv) : iprop(recs A B K ∗ aw c .y b ∗ cr c (.snd .y b) ∗ anyOut c (rT b (rFy c) (rFy_le c))
      ∗ (land (zp c) .zf b ∗ tx c .zf b) ∗ ow c (.tr .zf b :: l))
    ⊢ iprop(((opay A B c (.snd .y b) ∗ dn c .y b ∗ hOut A B c (rT b (rFy c) (rFy_le c))
      ∗ held c ryM (Memref.isWhole_whole _) fullShare ((rB b).set \ (rH b 1).set) (RY A B c) ∗ cr c (.snd .zf b) ∗ ow c l) -∗ wpD c k Q) -∗ wpD c (pY c b k) Q) := by
  unfold pY
  iintro ⟨#HR, Ha, Hc, Ho, ⟨Hlf, Htf⟩, HO⟩ Hk
  iapply (wp_pair (A := A) (B := B) (K := K) (k := .y) (b := b) rfl rfl (crOut c b) (crRy b) hl) $$ [Ha Hc HO]
  · isplitr; · iexact HR
    isplitl [Ha]; · iexact Ha
    isplitl [Hc] <;> iassumption
  iintro ⟨Hs, Hr, Hd, HO⟩
  ihave Hr := (Entails.of_eq (rcv_y A B c b)) $$ Hr
  iapply (wp_ld (Finset.Subset.refl _)) $$ Hr; iintro Hr
  iapply (wp_ld_any (fun _ => rfl) (Finset.Subset.refl _)) $$ Ho; iintro Ho
  iapply (wp_st (X := OUT A B c) (out_fy A B c b)) $$ Ho; iintro Ho
  ihave Hr := (held_sdiff (rH_sub b 1)).1 $$ Hr
  icases Hr with ⟨Hr, Hrest⟩
  iapply (wp_move (A := A) (B := B) (K := K) (k := .zf) (b := b) (l := l) rfl rfl rfl (crRzf b) rfl rfl rfl (fun y => rzf_at A B c b _)) $$ [Hr Hlf Htf HO]
  · isplitr; · iexact HR
    isplitl [Hr]; · iexact Hr
    isplitl [Hlf]; · iexact Hlf
    isplitl [Htf] <;> iassumption
  iintro ⟨Hc, HO⟩
  iapply Hk
  isplitl [Hs]; · iexact Hs
  isplitl [Hd]; · iexact Hd
  isplitl [Ho]; · iexact Ho
  isplitl [Hrest]; · iexact Hrest
  isplitl [Hc] <;> iassumption

theorem step_Yf (hl : ∀ p ∈ l, 4 < p.lv) : iprop(recs A B K ∗ aw c .yf b ∗ cr c (.snd .yf b) ∗ anyOut c (rTh b (rDg c) (rDg_le c) 0) ∗ ow c l)
    ⊢ iprop(((opay A B c (.snd .yf b) ∗ opay A B c (.rcv .yf b) ∗ dn c .yf b ∗ hOut A B c (rTh b (rDg c) (rDg_le c) 0) ∗ ow c l) -∗ wpD c k Q) -∗ wpD c (pYf c b k) Q) := by
  unfold pYf
  iintro ⟨#HR, Ha, Hc, Ho, HO⟩ Hk
  iapply (wp_pair (A := A) (B := B) (K := K) (k := .yf) (b := b) rfl rfl (crRzh b) (crRyf b) hl) $$ [Ha Hc HO]
  · isplitr; · iexact HR
    isplitl [Ha]; · iexact Ha
    isplitl [Hc] <;> iassumption
  iintro ⟨Hs, Hr, Hd, HO⟩
  ihave Hr := (Entails.of_eq (rcv_yf A B c b)) $$ Hr
  iapply (wp_ld (Finset.Subset.refl _)) $$ Hr; iintro Hr
  iapply (wp_ld_any (fun _ => rfl) (Finset.Subset.refl _)) $$ Ho; iintro Ho
  iapply (wp_st (X := OUT A B c) (out_dg0 A B c b)) $$ Ho; iintro Ho
  iapply Hk
  isplitl [Hs]; · iexact Hs
  isplitl [Hr]; · iapply (Entails.of_eq (rcv_yf A B c b).symm) $$ Hr
  isplitl [Hd]; · iexact Hd
  isplitl [Ho] <;> iassumption

theorem step_Zf (hl : ∀ p ∈ l, 4 < p.lv) : iprop(recs A B K ∗ aw c .zf b ∗ cr c (.snd .zf b) ∗ anyOut c (rTh b (rDg c) (rDg_le c) 1) ∗ ow c l)
    ⊢ iprop(((opay A B c (.snd .zf b) ∗ opay A B c (.rcv .zf b) ∗ dn c .zf b ∗ hOut A B c (rTh b (rDg c) (rDg_le c) 1) ∗ ow c l) -∗ wpD c k Q) -∗ wpD c (pZf c b k) Q) := by
  unfold pZf
  iintro ⟨#HR, Ha, Hc, Ho, HO⟩ Hk
  iapply (wp_pair (A := A) (B := B) (K := K) (k := .zf) (b := b) rfl rfl (crRyh b) (crRzf b) hl) $$ [Ha Hc HO]
  · isplitr; · iexact HR
    isplitl [Ha]; · iexact Ha
    isplitl [Hc] <;> iassumption
  iintro ⟨Hs, Hr, Hd, HO⟩
  ihave Hr := (Entails.of_eq (rcv_zf A B c b)) $$ Hr
  iapply (wp_ld (Finset.Subset.refl _)) $$ Hr; iintro Hr
  iapply (wp_ld_any (fun _ => rfl) (Finset.Subset.refl _)) $$ Ho; iintro Ho
  iapply (wp_st (X := OUT A B c) (out_dg1 A B c b)) $$ Ho; iintro Ho
  iapply Hk
  isplitl [Hs]; · iexact Hs
  isplitl [Hr]; · iapply (Entails.of_eq (rcv_zf A B c b).symm) $$ Hr
  isplitl [Hd]; · iexact Hd
  isplitl [Ho] <;> iassumption

end Steps

end Cert.TwoPhase

end
-- ==== Proof.Phases.lean ====
/-
  The barrier and the loops of the body, each at any device.
-/
module

public import proofs.«01_k».proof.Proof.Steps

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32) {K : GSem nD τ sig → ℕ}

/-- The four batches. -/
abbrev B4 : List (Fin 4) := [0, 1, 2, 3]

theorem emp_two : (iprop(emp ∗ emp) : sProp 𝕄) ⊣⊢ iprop(emp) := by
  constructor
  · iintro -; iempintro
  · iintro -; isplitl <;> iempintro

theorem sep_cross (P Q R S : sProp 𝕄) : iprop((P ∗ Q) ∗ R ∗ S) ⊢ iprop((P ∗ R) ∗ Q ∗ S) := by
  iintro ⟨⟨H1, H2⟩, H3, H4⟩
  isplitl [H1 H3]
  · isplitl [H1] <;> iassumption
  · isplitl [H2] <;> iassumption

/-- Two things for each of a list are the one for each and the other for each. -/
theorem each_sep {α : Type} (l : List α) (P P' : α → sProp 𝕄) : each l (fun b => iprop(P b ∗ P' b)) = iprop(each l P ∗ each l P') := by
  induction l with
  | nil => unfold each; exact Entails.antisymm emp_two.2 emp_two.1
  | cons b l ih =>
    show iprop((P b ∗ P' b) ∗ each l (fun b => iprop(P b ∗ P' b))) = iprop((P b ∗ each l P) ∗ (P' b ∗ each l P'))
    rw [ih]
    exact Entails.antisymm (sep_cross _ _ _ _) (sep_cross _ _ _ _)

theorem each_cons {α : Type} (b : α) (l : List α) (P : α → sProp 𝕄) : each (b :: l) P = iprop(P b ∗ each l P) := rfl

theorem each_mono {α : Type} {l : List α} {P P' : α → sProp 𝕄} (h : ∀ b, P b ⊢ P' b) : each l P ⊢ each l P' := by
  induction l with
  | nil => unfold each; exact Entails.of_eq rfl
  | cons b l ih => exact BIClass.sep_mono (h b) ih

/-! ## What is owed, in order -/

/-- The payments of each of a list of batches, then the rest. -/
def dl (f : Fin 4 → List PK) (bs : List (Fin 4)) (rest : List PK) : List PK := bs.foldr (fun b r => f b ++ r) rest

theorem dl_all {f : Fin 4 → List PK} {bs : List (Fin 4)} {rest : List PK} {P : PK → Prop} (h : ∀ b, ∀ p ∈ f b, P p) (hr : ∀ p ∈ rest, P p) :
    ∀ p ∈ dl f bs rest, P p := by
  induction bs with
  | nil => exact hr
  | cons b bs ih =>
    intro p hp
    rcases List.mem_append.mp hp with hp | hp
    · exact h b p hp
    · exact ih p hp

/-- The payments of a batch in each loop. -/
def dX (b : Fin 4) : List PK := [.tr (.x 0) b, .tr (.x 1) b]
def dM (b : Fin 4) : List PK := [.tr .z b, .tr .y b]
def dYf (b : Fin 4) : List PK := [.tr .yf b]
def dZf (b : Fin 4) : List PK := [.tr .zf b]

/-- What is owed before each loop, and at the start. -/
def dues4 : List PK := dl dZf B4 []
def dues3 : List PK := dl dYf B4 dues4
def dues2 : List PK := dl dM B4 dues3
def dues1 : List PK := dl dX B4 dues2
def dues0 : List PK := .bar 0 :: .bar 1 :: .bar 2 :: dues1

theorem lv_two {p q r : PK} {n : ℕ} (hq : q.lv = n) (hr : r.lv = n) (h : p ∈ [q, r]) : p.lv = n := by
  rcases List.mem_cons.mp h with rfl | h
  · exact hq
  · rw [List.mem_singleton.mp h]; exact hr
theorem lv_x (b : Fin 4) : ∀ p ∈ dX b, PK.lv p = 2 := fun p hp => lv_two rfl rfl hp
theorem lv_m (b : Fin 4) : ∀ p ∈ dM b, PK.lv p = 3 := fun p hp => lv_two rfl rfl hp
theorem lv_yf (b : Fin 4) : ∀ p ∈ dYf b, PK.lv p = 4 := fun p hp => by rw [List.mem_singleton.mp hp]; rfl
theorem lv_zf (b : Fin 4) : ∀ p ∈ dZf b, PK.lv p = 4 := fun p hp => by rw [List.mem_singleton.mp hp]; rfl

theorem lv_dues4 (bs : List (Fin 4)) : ∀ p ∈ dl dZf bs [], 3 < p.lv := dl_all (fun b p hp => by rw [lv_zf b p hp]; decide) (fun p hp => absurd hp List.not_mem_nil)
theorem lv_dues3 (bs : List (Fin 4)) : ∀ p ∈ dl dYf bs dues4, 3 < p.lv := dl_all (fun b p hp => by rw [lv_yf b p hp]; decide) (lv_dues4 B4)
theorem lv_dues2 (bs : List (Fin 4)) : ∀ p ∈ dl dM bs dues3, 2 < p.lv :=
  dl_all (fun b p hp => by rw [lv_m b p hp]; decide) (fun p hp => Nat.lt_of_succ_lt (lv_dues3 B4 p hp))
theorem lv_dues1 (bs : List (Fin 4)) : ∀ p ∈ dl dX bs dues2, 1 < p.lv :=
  dl_all (fun b p hp => by rw [lv_x b p hp]; decide) (fun p hp => Nat.lt_of_succ_lt (lv_dues2 B4 p hp))

section Phases

variable {A B} {c : Dev nD} {k : PR F} {Q : PUnit → sProp (MT nD τ sig Unit (Elt F) ℕ UU ℕ)} {l : List PK}

/-! ## The barrier -/

/-- Announcing to the neighbour in a direction: its barrier cell's duty is paid with what is announced. -/
theorem wp_sig {d : Fin 3} {kk : PUnit → PR F} : iprop(recs A B K ∗ bpay (F := F) (dir d c) d ∗ dutyTok ER (cel (dir d c) none) 0 d ∗ ow c (.bar d :: l))
    ⊢ iprop((ow c l -∗ wpD c (kk ⟨⟩) Q) -∗ wpD c (.op (.semSignal (Dev.tc (dir d c) : Thread nD τ) barS 1) kk) Q) := by
  unfold ow
  iintro ⟨#HR, Hp, Ht, ⟨%W, HO⟩⟩ Hk
  ihave #HI := (recs_inv A B K (dir d c) none) $$ HR
  ihave #Hr := (recs_bar A B K (dir d c)) $$ HR
  have hs := Rounds.wp_signal 𝒱₀ ER (Rd A B) (c : Thread nD τ) none (dst := (Dev.tc (dir d c) : Thread nD τ)) (sem := barS) (k' := 1) (k := kk) (Q := Q) (defs := defs₀ (F := F))
    (Es := Set.univ) (Γ := ∅) (κ := K (cel (dir d c) none)) (r := 0) (d := d)
    (by exact (duties_bar A B (dir d c)).symm ▸ Finset.mem_univ d) (amount_cel A B (dir d c) none d) () (dueOf c l) rfl (W := W)
  rw [show (((Dev.tc (dir d c) : Thread nD τ), SemLoc.reg barS) : GSem nD τ sig) = cel (dir d c) none from rfl, payload_cel,
    show pay A B (dir d c) none d = bpay (dir d c) d from rfl] at hs
  iapply hs $$ [Hp Ht HO]
  · isplitr; · iexact HI
    isplitl [HO]; · iexact HO
    isplitl [Ht]; · iexact Ht
    isplitl [Hp]; · iexact Hp
    iexact Hr
  iintro HO
  iapply Hk; iexists W; iexact HO

theorem recs_mayWait_bar (c : Dev nD) (l : List PK) (h : ∀ p ∈ l, clv none < p.lv) :
    recs A B K ⊢ MayWait (c : Thread nD τ) (SemLoc.reg barS) () (dueOf c l) := by
  have hm := mayWait (F := F) c none l h
  unfold recs
  iintro ⟨-, -, #H⟩
  iapply hm
  iexact H

/-- Waiting for the three announcements. -/
theorem wp_bar {kk : PUnit → PR F} (hl : ∀ p ∈ l, 1 < p.lv) : iprop(recs A B K ∗ atPos ER (cel c none) 0 ∅ 0 ∗ cred (tallyAt (cel c none) () 3) ∗ ow c l)
    ⊢ iprop(((bpay (F := F) c 0 ∗ bpay (F := F) c 1 ∗ bpay (F := F) c 2 ∗ atPos ER (cel c none) 1 ∅ 0 ∗ ow c l) -∗ wpD c (kk ⟨⟩) Q) -∗ wpD c (.op (.semWait barS 3) kk) Q) := by
  unfold ow
  iintro ⟨#HR, Ha, Hc, ⟨%W, HO⟩⟩ Hk
  ihave #HI := (recs_inv A B K c none) $$ HR
  have hk : 0 + 3 = (Rd A B).expect ((c : Thread nD τ), SemLoc.reg barS) 0 := by
    rw [show (((c : Thread nD τ), SemLoc.reg barS) : GSem nD τ sig) = cel c none from rfl, expect_bar]
  have hw := Rounds.wp_wait_rest_token 𝒱₀ ER (Rd A B) (c : Thread nD τ) none (κ := K (cel c none)) (k := kk) (Q := Q)
      (wpE_semWait_eq (sem := barS) (k := 3) (defs := defs₀ (F := F)) 𝒱₀ (c : Thread nD τ) none Set.univ) (Set.mem_univ _) () (O := dueOf c l) (W := W) (R := 0) (m := 0) (T := ∅) hk
  rw [show (((c : Thread nD τ), SemLoc.reg barS) : GSem nD τ sig) = cel c none from rfl, rest_bar] at hw
  iapply hw $$ [Ha Hc HO]
  · isplitr; · iexact HI
    isplitl [Hc]; · iexact Hc
    isplitl [HO]; · iexact HO
    isplitr; · iapply (recs_mayWait_bar (A := A) (B := B) (K := K) c l hl); iexact HR
    iexact Ha
  iintro ⟨HO, Ha, -, Hp⟩
  icases Hp with ⟨H0, H1, H2⟩
  iapply Hk
  isplitl [H0]; · iexact H0
  isplitl [H1]; · iexact H1
  isplitl [H2]; · iexact H2
  isplitl [Ha]; · iexact Ha
  iexists _; iexact HO

theorem pBar_eq (c : Dev nD) (k : PR F) : pBar c k = .op (.semSignal (Dev.tc (dir 0 c) : Thread nD τ) barS 1) fun _ =>
    .op (.semSignal (Dev.tc (dir 1 c) : Thread nD τ) barS 1) fun _ => .op (.semSignal (Dev.tc (dir 2 c) : Thread nD τ) barS 1) fun _ =>
    .op (.semWait barS 3) fun _ => k := rfl

theorem bpay0 (c : Dev nD) : bpay (F := F) (dir 0 c) 0 = iprop(lands c (.x 0) ∗ lands c (.x 1)) := by
  unfold bpay; rw [show xp (dir 0 c) = c from xp_xp c]
theorem bpay1 (c : Dev nD) : bpay (F := F) (dir 1 c) 1 = iprop(lands c .y ∗ lands c .yf) := by
  unfold bpay; rw [show yp (dir 1 c) = c from yp_yp c]
theorem bpay2 (c : Dev nD) : bpay (F := F) (dir 2 c) 2 = iprop(lands c .z ∗ lands c .zf) := by
  unfold bpay; rw [show zp (dir 2 c) = c from zp_zp c]

/-- The barrier: the device's landing places go to its neighbours, theirs come in. -/
theorem step_Bar (hl : ∀ p ∈ l, 1 < p.lv) : iprop(recs A B K ∗ (lands (F := F) c (.x 0) ∗ lands (F := F) c (.x 1)) ∗ (lands (F := F) c .y ∗ lands (F := F) c .yf)
      ∗ (lands (F := F) c .z ∗ lands (F := F) c .zf)
      ∗ dutyTok ER (cel (dir 0 c) none) 0 0 ∗ dutyTok ER (cel (dir 1 c) none) 0 1 ∗ dutyTok ER (cel (dir 2 c) none) 0 2
      ∗ atPos ER (cel c none) 0 ∅ 0 ∗ cred (tallyAt (cel c none) () 3) ∗ ow c (.bar 0 :: .bar 1 :: .bar 2 :: l))
    ⊢ iprop((((lands (F := F) (xp c) (.x 0) ∗ lands (F := F) (xp c) (.x 1)) ∗ (lands (F := F) (yp c) .y ∗ lands (F := F) (yp c) .yf)
      ∗ (lands (F := F) (zp c) .z ∗ lands (F := F) (zp c) .zf) ∗ atPos ER (cel c none) 1 ∅ 0 ∗ ow c l) -∗ wpD c k Q) -∗ wpD c (pBar c k) Q) := by
  rw [pBar_eq, ← bpay0, ← bpay1, ← bpay2]
  iintro ⟨#HR, H0, H1, H2, T0, T1, T2, Ha, Hc, HO⟩ Hk
  iapply (wp_sig (A := A) (B := B) (K := K) (d := 0)) $$ [H0 T0 HO]
  · isplitr; · iexact HR
    isplitl [H0]; · iexact H0
    isplitl [T0] <;> iassumption
  iintro HO
  iapply (wp_sig (A := A) (B := B) (K := K) (d := 1)) $$ [H1 T1 HO]
  · isplitr; · iexact HR
    isplitl [H1]; · iexact H1
    isplitl [T1] <;> iassumption
  iintro HO
  iapply (wp_sig (A := A) (B := B) (K := K) (d := 2)) $$ [H2 T2 HO]
  · isplitr; · iexact HR
    isplitl [H2]; · iexact H2
    isplitl [T2] <;> iassumption
  iintro HO
  iapply (wp_bar (A := A) (B := B) (K := K) hl) $$ [Ha Hc HO]
  · isplitr; · iexact HR
    isplitl [Ha]; · iexact Ha
    isplitl [Hc] <;> iassumption
  iintro ⟨H0, H1, H2, Ha, HO⟩
  unfold bpay
  iapply Hk
  isplitl [H0]; · iexact H0
  isplitl [H1]; · iexact H1
  isplitl [H2]; · iexact H2
  isplitl [Ha] <;> iassumption

/-! ## The loops -/

/-- What starting a load needs. -/
def gO (c : Dev nD) (b : Fin 4) : sProp 𝕄 := iprop(held c aM (Memref.isWhole_whole _) fullShare (rO b).set (A c) ∗ heldAny c ovM (Memref.isWhole_whole _) (rO b).set
      ∗ tok c (.ldO b) ∗ rch c (.ldO b))
def gW (c : Dev nD) (n : Fin 2) : sProp 𝕄 := iprop(held c bM (Memref.isWhole_whole _) fullShare (rW n).set (B c) ∗ heldAny c wvM (Memref.isWhole_whole _) (rW n).set
      ∗ tok c (.ldW n) ∗ rch c (.ldW n))

/-- The loads of all batches and halves are started. -/
theorem phase_Ld : iprop(recs A B K ∗ gW (B := B) c 0 ∗ gW (B := B) c 1 ∗ each B4 (gO (A := A) c))
    ⊢ iprop(((cr c (.ldW 0) ∗ cr c (.ldW 1) ∗ each B4 (fun b => cr (F := F) c (.ldO b))) -∗ wpD c k Q)
      -∗ wpD c (pLdW 0 <| pLdO 0 <| pLdW 1 <| forL [1, 2, 3] pLdO k) Q) := by
  have hl := wp_forL (A := A) (B := B) (K := K) (c := c) (Q := Q) (f := pLdO) (I := fun _ => iprop(emp)) (P := gO (A := A) c) (P' := fun b => cr (F := F) c (.ldO b))
    (fun b bs k => by
      iintro ⟨#HR, -, Hb⟩ Hk
      unfold gO
      iapply (step_LdO (A := A) (B := B) (K := K)) $$ [Hb]
      · isplitr; · iexact HR
        iexact Hb
      iintro Hc
      iapply Hk
      isplitr; · iempintro
      iexact Hc) [1, 2, 3] k
  rw [each_cons 0 [1, 2, 3] (gO (A := A) c), each_cons 0 [1, 2, 3] (fun b => cr (F := F) c (.ldO b))]
  iintro ⟨#HR, Hw0, Hw1, Ho, Hs⟩ Hk
  unfold gO gW
  iapply (step_LdW (A := A) (B := B) (K := K)) $$ [Hw0]
  · isplitr; · iexact HR
    iexact Hw0
  iintro Hc0
  iapply (step_LdO (A := A) (B := B) (K := K)) $$ [Ho]
  · isplitr; · iexact HR
    iexact Ho
  iintro Hc
  iapply (step_LdW (A := A) (B := B) (K := K)) $$ [Hw1]
  · isplitr; · iexact HR
    iexact Hw1
  iintro Hc1
  unfold gO at hl
  iapply hl $$ [Hs]
  · isplitr; · iexact HR
    isplitr; · iempintro
    iexact Hs
  iintro ⟨-, Hs⟩
  iapply Hk
  isplitl [Hc0]; · iexact Hc0
  isplitl [Hc1]; · iexact Hc1
  isplitl [Hc] <;> iassumption

/-- What the product and the send of a half need, and what they leave. -/
def gX (c : Dev nD) (n : Fin 2) (b : Fin 4) : sProp 𝕄 := iprop(heldAny c sxM (Memref.isWhole_whole _) (rSx b n).set ∗ land (xp c) (.x n) b ∗ tx c (.x n) b)
def gX' (c : Dev nD) (n : Fin 2) (b : Fin 4) : sProp 𝕄 := iprop(hSrest A B c b n ∗ cr c (.snd (.x n) b))

theorem step_X2 {b : Fin 4} {n : Fin 2} : iprop(recs A B K ∗ hO A c b ∗ hW B c n ∗ gX c n b ∗ ow c (.tr (.x n) b :: l))
    ⊢ iprop(((hO A c b ∗ hW B c n ∗ gX' (A := A) (B := B) c n b ∗ ow c l) -∗ wpD c k Q) -∗ wpD c (pX c b n k) Q) := by
  unfold gX gX'
  iintro ⟨#HR, Ho, Hw, ⟨Hs, Hl, Ht⟩, HO⟩ Hk
  iapply (step_X (A := A) (B := B) (K := K)) $$ [Ho Hw Hs Hl Ht HO]
  · isplitr; · iexact HR
    isplitl [Ho]; · iexact Ho
    isplitl [Hw]; · iexact Hw
    isplitl [Hs]; · iexact Hs
    isplitl [Hl]; · iexact Hl
    isplitl [Ht] <;> iassumption
  iintro ⟨Ho, Hw, Hr, Hc, HO⟩
  iapply Hk
  isplitl [Ho]; · iexact Ho
  isplitl [Hw]; · iexact Hw
  isplitl [Hr Hc]
  · isplitl [Hr] <;> iassumption
  iexact HO

/-- What a batch's products need, and what they leave. -/
def gXX (c : Dev nD) (b : Fin 4) : sProp 𝕄 := iprop((at_ (F := F) c (.ldO b) 0 ∗ cr (F := F) c (.ldO b)) ∗ gX (F := F) c 0 b ∗ gX (F := F) c 1 b)
def gXX' (c : Dev nD) (b : Fin 4) : sProp 𝕄 := iprop(hO A c b ∗ (held c aM (Memref.isWhole_whole _) fullShare (rO b).set (A c) ∗ at_ (F := F) c (.ldO b) 1)
  ∗ gX' (A := A) (B := B) c 0 b ∗ gX' (A := A) (B := B) c 1 b)

theorem opay_ldO (b : Fin 4) : opay A B c (.ldO b) = iprop(hO A c b ∗ held c aM (Memref.isWhole_whole _) fullShare (rO b).set (A c)) := rfl
theorem opay_ldW (n : Fin 2) : opay A B c (.ldW n) = iprop(hW B c n ∗ held c bM (Memref.isWhole_whole _) fullShare (rW n).set (B c)) := rfl

/-- The first exchange's products and sends at every batch. -/
theorem phase_X : iprop(recs A B K ∗ (at_ (F := F) c (.ldW 0) 0 ∗ cr (F := F) c (.ldW 0)) ∗ (at_ (F := F) c (.ldW 1) 0 ∗ cr (F := F) c (.ldW 1)) ∗ each B4 (gXX c) ∗ ow c dues1)
    ⊢ iprop(((((hW B c 0 ∗ hW B c 1) ∗ (held c bM (Memref.isWhole_whole _) fullShare (rW 0).set (B c) ∗ held c bM (Memref.isWhole_whole _) fullShare (rW 1).set (B c)))
        ∗ (at_ (F := F) c (.ldW 0) 1 ∗ at_ (F := F) c (.ldW 1) 1) ∗ each B4 (gXX' (A := A) (B := B) c) ∗ ow c dues2) -∗ wpD c k Q)
      -∗ wpD c (pWtO 0 <| pWtW 0 <| pX c 0 0 <| pWtW 1 <| pX c 0 1 <| forL [1, 2, 3] (fun b k => pWtO b <| pX c b 0 <| pX c b 1 k) k) Q) := by
  have hl := wp_forL (A := A) (B := B) (K := K) (c := c) (Q := Q) (f := fun b k => pWtO b <| pX c b 0 <| pX c b 1 k)
    (I := fun bs => iprop(hW B c 0 ∗ hW B c 1 ∗ ow c (dl dX bs dues2))) (P := gXX c) (P' := gXX' (A := A) (B := B) c)
    (fun b bs k => by
      unfold gXX gXX'
      rw [show dl dX (b :: bs) dues2 = .tr (.x 0) b :: .tr (.x 1) b :: dl dX bs dues2 from rfl]
      iintro ⟨#HR, ⟨Hw0, Hw1, HO⟩, ⟨⟨Ha, Hc⟩, Hx0, Hx1⟩⟩ Hk
      iapply (step_WtO (A := A) (B := B) (K := K)) $$ [Ha Hc HO]
      · isplitr; · iexact HR
        isplitl [Ha]; · iexact Ha
        isplitl [Hc] <;> iassumption
      iintro ⟨Hp, Ha, HO⟩
      ihave Hp := (Entails.of_eq (opay_ldO (A := A) (B := B) (c := c) b)) $$ Hp
      icases Hp with ⟨Ho, Hp⟩
      iapply (step_X2 (A := A) (B := B) (K := K)) $$ [Ho Hw0 Hx0 HO]
      · isplitr; · iexact HR
        isplitl [Ho]; · iexact Ho
        isplitl [Hw0]; · iexact Hw0
        isplitl [Hx0] <;> iassumption
      iintro ⟨Ho, Hw0, Hx0, HO⟩
      iapply (step_X2 (A := A) (B := B) (K := K)) $$ [Ho Hw1 Hx1 HO]
      · isplitr; · iexact HR
        isplitl [Ho]; · iexact Ho
        isplitl [Hw1]; · iexact Hw1
        isplitl [Hx1] <;> iassumption
      iintro ⟨Ho, Hw1, Hx1, HO⟩
      iapply Hk
      isplitl [Hw0 Hw1 HO]
      · isplitl [Hw0]; · iexact Hw0
        isplitl [Hw1] <;> iassumption
      isplitl [Ho]; · iexact Ho
      isplitl [Hp Ha]
      · isplitl [Hp] <;> iassumption
      isplitl [Hx0] <;> iassumption) [1, 2, 3] k
  rw [each_cons 0 [1, 2, 3] (gXX (F := F) c), each_cons 0 [1, 2, 3] (gXX' (A := A) (B := B) c), show dues1 = .tr (.x 0) 0 :: .tr (.x 1) 0 :: dl dX [1, 2, 3] dues2 from rfl]
  rw [show gXX (F := F) c 0 = iprop((at_ (F := F) c (.ldO 0) 0 ∗ cr (F := F) c (.ldO 0)) ∗ gX (F := F) c 0 0 ∗ gX (F := F) c 1 0) from rfl,
    show gXX' (A := A) (B := B) c 0 = iprop(hO A c 0 ∗ (held c aM (Memref.isWhole_whole _) fullShare (rO 0).set (A c) ∗ at_ (F := F) c (.ldO 0) 1)
      ∗ gX' (A := A) (B := B) c 0 0 ∗ gX' (A := A) (B := B) c 1 0) from rfl]
  iintro ⟨#HR, ⟨Ha0, Hc0⟩, ⟨Ha1, Hc1⟩, ⟨⟨⟨Ha, Hc⟩, Hx0, Hx1⟩, Hs⟩, HO⟩ Hk
  iapply (step_WtO (A := A) (B := B) (K := K)) $$ [Ha Hc HO]
  · isplitr; · iexact HR
    isplitl [Ha]; · iexact Ha
    isplitl [Hc] <;> iassumption
  iintro ⟨Hp, Ha, HO⟩
  ihave Hp := (Entails.of_eq (opay_ldO (A := A) (B := B) (c := c) 0)) $$ Hp
  icases Hp with ⟨Ho, Hp⟩
  iapply (step_WtW (A := A) (B := B) (K := K)) $$ [Ha0 Hc0 HO]
  · isplitr; · iexact HR
    isplitl [Ha0]; · iexact Ha0
    isplitl [Hc0] <;> iassumption
  iintro ⟨Hq0, Ha0, HO⟩
  ihave Hq0 := (Entails.of_eq (opay_ldW (A := A) (B := B) (c := c) 0)) $$ Hq0
  icases Hq0 with ⟨Hw0, Hq0⟩
  iapply (step_X2 (A := A) (B := B) (K := K)) $$ [Ho Hw0 Hx0 HO]
  · isplitr; · iexact HR
    isplitl [Ho]; · iexact Ho
    isplitl [Hw0]; · iexact Hw0
    isplitl [Hx0] <;> iassumption
  iintro ⟨Ho, Hw0, Hx0, HO⟩
  iapply (step_WtW (A := A) (B := B) (K := K)) $$ [Ha1 Hc1 HO]
  · isplitr; · iexact HR
    isplitl [Ha1]; · iexact Ha1
    isplitl [Hc1] <;> iassumption
  iintro ⟨Hq1, Ha1, HO⟩
  ihave Hq1 := (Entails.of_eq (opay_ldW (A := A) (B := B) (c := c) 1)) $$ Hq1
  icases Hq1 with ⟨Hw1, Hq1⟩
  iapply (step_X2 (A := A) (B := B) (K := K)) $$ [Ho Hw1 Hx1 HO]
  · isplitr; · iexact HR
    isplitl [Ho]; · iexact Ho
    isplitl [Hw1]; · iexact Hw1
    isplitl [Hx1] <;> iassumption
  iintro ⟨Ho, Hw1, Hx1, HO⟩
  iapply hl $$ [Hw0 Hw1 HO Hs]
  · isplitr; · iexact HR
    isplitl [Hw0 Hw1 HO]
    · isplitl [Hw0]; · iexact Hw0
      isplitl [Hw1] <;> iassumption
    iexact Hs
  iintro ⟨⟨Hw0, Hw1, HO⟩, Hs⟩
  iapply Hk
  isplitl [Hw0 Hw1 Hq0 Hq1]
  · isplitl [Hw0 Hw1]
    · isplitl [Hw0] <;> iassumption
    · isplitl [Hq0] <;> iassumption
  isplitl [Ha0 Ha1]
  · isplitl [Ha0] <;> iassumption
  isplitr [HO]
  · isplitr [Hs]
    · isplitl [Ho]; · iexact Ho
      isplitl [Hp Ha]
      · isplitl [Hp] <;> iassumption
      isplitl [Hx0] <;> iassumption
    iexact Hs
  iexact HO

/-- The kept products at every batch. -/
theorem phase_Re : iprop(recs A B K ∗ hWW B c ∗ each B4 (hO A c) ∗ each B4 (fun b => heldAny (F := F) c reM (Memref.isWhole_whole _) (rRe b).set))
    ⊢ iprop(((hWW B c ∗ each B4 (hO A c) ∗ each B4 (hRe A B c)) -∗ wpD c k Q) -∗ wpD c (forB (pRe c) k) Q) := by
  simp only [← each_sep]
  exact wp_forL (A := A) (B := B) (K := K) (c := c) (Q := Q) (f := pRe c) (I := fun _ => hWW B c)
    (P := fun b => iprop(hO A c b ∗ heldAny (F := F) c reM (Memref.isWhole_whole _) (rRe b).set)) (P' := fun b => iprop(hO A c b ∗ hRe A B c b))
    (fun b bs k => by
      iintro ⟨-, Hw, Ho, Hr⟩ Hk
      iapply (step_Re (A := A) (B := B)) $$ [Ho Hw Hr]
      · isplitl [Ho]; · iexact Ho
        isplitl [Hw] <;> iassumption
      iintro ⟨Ho, Hw, Hr⟩
      iapply Hk
      isplitl [Hw]; · iexact Hw
      isplitl [Ho] <;> iassumption) B4 k

theorem rx_join (b : Fin 4) : iprop(opay A B c (.rcv (.x 0) b) ∗ opay A B c (.rcv (.x 1) b)) ⊢ hRx A B c b :=
  (held_union (F := F) (c := c) (m := rxM) (h := Memref.isWhole_whole _) (q := fullShare) (X := RX A B c) (rH_disj b)).2.trans (Entails.of_eq (held_of_eq (rH_union b)))

/-- The own rows at every batch. -/
theorem phase_Mine : iprop(recs A B K ∗ ow c dues2
      ∗ each B4 (aw (F := F) c (.x 0)) ∗ each B4 (fun b => cr (F := F) c (.snd (.x 0) b)) ∗ each B4 (aw (F := F) c (.x 1)) ∗ each B4 (fun b => cr (F := F) c (.snd (.x 1) b))
      ∗ each B4 (hRe A B c) ∗ each B4 (fun b => anyOut (F := F) c (rT b (rMine c) (rMine_le c)))
      ∗ each B4 (land (F := F) (zp c) .z) ∗ each B4 (tx (F := F) c .z) ∗ each B4 (land (F := F) (yp c) .y) ∗ each B4 (tx (F := F) c .y))
    ⊢ iprop(((ow c dues3 ∗ each B4 (fun b => opay A B c (.snd (.x 0) b)) ∗ each B4 (fun b => opay A B c (.snd (.x 1) b)) ∗ each B4 (dn (F := F) c (.x 0)) ∗ each B4 (dn (F := F) c (.x 1))
        ∗ each B4 (hRe A B c) ∗ each B4 (hRx A B c) ∗ each B4 (fun b => cr (F := F) c (.snd .z b)) ∗ each B4 (fun b => cr (F := F) c (.snd .y b))) -∗ wpD c k Q)
      -∗ wpD c (forB (fun b k => pWtX c b 0 <| pWtX c b 1 <| pMine c b k) k) Q) := by
  simp only [← each_sep]
  exact wp_forL (A := A) (B := B) (K := K) (c := c) (Q := Q) (f := fun b k => pWtX c b 0 <| pWtX c b 1 <| pMine c b k) (I := fun bs => ow c (dl dM bs dues3))
    (fun b bs k => by
      rw [show dl dM (b :: bs) dues3 = .tr .z b :: .tr .y b :: dl dM bs dues3 from rfl]
      have hl := lv_dues2 (b :: bs)
      rw [show dl dM (b :: bs) dues3 = .tr .z b :: .tr .y b :: dl dM bs dues3 from rfl] at hl
      iintro ⟨#HR, HO, Ha0, Hc0, Ha1, Hc1, He, Ho, Hlz, Htz, Hly, Hty⟩ Hk
      iapply (step_WtX (A := A) (B := B) (K := K) hl) $$ [Ha0 Hc0 HO]
      · isplitr; · iexact HR
        isplitl [Ha0]; · iexact Ha0
        isplitl [Hc0] <;> iassumption
      iintro ⟨Hs0, Hr0, Hd0, HO⟩
      iapply (step_WtX (A := A) (B := B) (K := K) hl) $$ [Ha1 Hc1 HO]
      · isplitr; · iexact HR
        isplitl [Ha1]; · iexact Ha1
        isplitl [Hc1] <;> iassumption
      iintro ⟨Hs1, Hr1, Hd1, HO⟩
      ihave Hx := (rx_join (A := A) (B := B) (c := c) b) $$ [Hr0 Hr1]
      · isplitl [Hr0] <;> iassumption
      iapply (step_Mine (A := A) (B := B) (K := K)) $$ [He Hx Ho Hlz Htz Hly Hty HO]
      · isplitr; · iexact HR
        isplitl [He]; · iexact He
        isplitl [Hx]; · iexact Hx
        isplitl [Ho]; · iexact Ho
        isplitl [Hlz Htz]
        · isplitl [Hlz] <;> iassumption
        isplitl [Hly Hty]
        · isplitl [Hly] <;> iassumption
        iexact HO
      iintro ⟨He, Hx, Hcz, Hcy, HO⟩
      iapply Hk
      isplitl [HO]; · iexact HO
      isplitl [Hs0]; · iexact Hs0
      isplitl [Hs1]; · iexact Hs1
      isplitl [Hd0]; · iexact Hd0
      isplitl [Hd1]; · iexact Hd1
      isplitl [He]; · iexact He
      isplitl [Hx]; · iexact Hx
      isplitl [Hcz] <;> iassumption) B4 k

/-- The partner's rows at every batch. -/
theorem phase_Z : iprop(recs A B K ∗ ow c dues3 ∗ each B4 (aw (F := F) c .z) ∗ each B4 (fun b => cr (F := F) c (.snd .z b))
      ∗ each B4 (fun b => anyOut (F := F) c (rT b (rFz c) (rFz_le c))) ∗ each B4 (land (F := F) (yp c) .yf) ∗ each B4 (tx (F := F) c .yf))
    ⊢ iprop(((ow c dues4 ∗ each B4 (fun b => opay A B c (.snd .z b)) ∗ each B4 (dn (F := F) c .z) ∗ each B4 (fun b => hOut A B c (rT b (rFz c) (rFz_le c)))
        ∗ each B4 (fun b => held c rzM (Memref.isWhole_whole _) fullShare ((rB b).set \ (rH b 0).set) (RZ A B c)) ∗ each B4 (fun b => cr (F := F) c (.snd .yf b))) -∗ wpD c k Q)
      -∗ wpD c (forB (pZ c) k) Q) := by
  simp only [← each_sep]
  exact wp_forL (A := A) (B := B) (K := K) (c := c) (Q := Q) (f := pZ c) (I := fun bs => ow c (dl dYf bs dues4))
    (fun b bs k => by
      have hl := lv_dues3 (b :: bs)
      iintro ⟨#HR, HO, Ha, Hc, Ho, Hl, Ht⟩ Hk
      iapply (step_Z (A := A) (B := B) (K := K) hl) $$ [Ha Hc Ho Hl Ht HO]
      · isplitr; · iexact HR
        isplitl [Ha]; · iexact Ha
        isplitl [Hc]; · iexact Hc
        isplitl [Ho]; · iexact Ho
        isplitl [Hl Ht]
        · isplitl [Hl] <;> iassumption
        iexact HO
      iintro ⟨Hs, Hd, Ho, Hr, Hc, HO⟩
      iapply Hk
      isplitl [HO]; · iexact HO
      isplitl [Hs]; · iexact Hs
      isplitl [Hd]; · iexact Hd
      isplitl [Ho]; · iexact Ho
      isplitl [Hr] <;> iassumption) B4 k

/-- The second-axis neighbour's rows at every batch. -/
theorem phase_Y : iprop(recs A B K ∗ ow c dues4 ∗ each B4 (aw (F := F) c .y) ∗ each B4 (fun b => cr (F := F) c (.snd .y b))
      ∗ each B4 (fun b => anyOut (F := F) c (rT b (rFy c) (rFy_le c))) ∗ each B4 (land (F := F) (zp c) .zf) ∗ each B4 (tx (F := F) c .zf))
    ⊢ iprop(((ow c [] ∗ each B4 (fun b => opay A B c (.snd .y b)) ∗ each B4 (dn (F := F) c .y) ∗ each B4 (fun b => hOut A B c (rT b (rFy c) (rFy_le c)))
        ∗ each B4 (fun b => held c ryM (Memref.isWhole_whole _) fullShare ((rB b).set \ (rH b 1).set) (RY A B c)) ∗ each B4 (fun b => cr (F := F) c (.snd .zf b))) -∗ wpD c k Q)
      -∗ wpD c (forB (pY c) k) Q) := by
  simp only [← each_sep]
  exact wp_forL (A := A) (B := B) (K := K) (c := c) (Q := Q) (f := pY c) (I := fun bs => ow c (dl dZf bs []))
    (fun b bs k => by
      have hl := lv_dues4 (b :: bs)
      iintro ⟨#HR, HO, Ha, Hc, Ho, Hl, Ht⟩ Hk
      iapply (step_Y (A := A) (B := B) (K := K) hl) $$ [Ha Hc Ho Hl Ht HO]
      · isplitr; · iexact HR
        isplitl [Ha]; · iexact Ha
        isplitl [Hc]; · iexact Hc
        isplitl [Ho]; · iexact Ho
        isplitl [Hl Ht]
        · isplitl [Hl] <;> iassumption
        iexact HO
      iintro ⟨Hs, Hd, Ho, Hr, Hc, HO⟩
      iapply Hk
      isplitl [HO]; · iexact HO
      isplitl [Hs]; · iexact Hs
      isplitl [Hd]; · iexact Hd
      isplitl [Ho]; · iexact Ho
      isplitl [Hr] <;> iassumption) B4 k

/-- The diagonal's rows at every batch, left halves. -/
theorem phase_Yf : iprop(recs A B K ∗ ow c [] ∗ each B4 (aw (F := F) c .yf) ∗ each B4 (fun b => cr (F := F) c (.snd .yf b))
      ∗ each B4 (fun b => anyOut (F := F) c (rTh b (rDg c) (rDg_le c) 0)))
    ⊢ iprop(((ow c [] ∗ each B4 (fun b => opay A B c (.snd .yf b)) ∗ each B4 (fun b => opay A B c (.rcv .yf b)) ∗ each B4 (dn (F := F) c .yf)
        ∗ each B4 (fun b => hOut A B c (rTh b (rDg c) (rDg_le c) 0))) -∗ wpD c k Q)
      -∗ wpD c (forB (pYf c) k) Q) := by
  simp only [← each_sep]
  exact wp_forL (A := A) (B := B) (K := K) (c := c) (Q := Q) (f := pYf c) (I := fun _ => ow c [])
    (fun b bs k => by
      iintro ⟨#HR, HO, Ha, Hc, Ho⟩ Hk
      iapply (step_Yf (A := A) (B := B) (K := K) (fun p hp => absurd hp List.not_mem_nil)) $$ [Ha Hc Ho HO]
      · isplitr; · iexact HR
        isplitl [Ha]; · iexact Ha
        isplitl [Hc]; · iexact Hc
        isplitl [Ho] <;> iassumption
      iintro ⟨Hs, Hr, Hd, Ho, HO⟩
      iapply Hk
      isplitl [HO]; · iexact HO
      isplitl [Hs]; · iexact Hs
      isplitl [Hr]; · iexact Hr
      isplitl [Hd] <;> iassumption) B4 k

/-- The same, right halves. -/
theorem phase_Zf : iprop(recs A B K ∗ ow c [] ∗ each B4 (aw (F := F) c .zf) ∗ each B4 (fun b => cr (F := F) c (.snd .zf b))
      ∗ each B4 (fun b => anyOut (F := F) c (rTh b (rDg c) (rDg_le c) 1)))
    ⊢ iprop(((ow c [] ∗ each B4 (fun b => opay A B c (.snd .zf b)) ∗ each B4 (fun b => opay A B c (.rcv .zf b)) ∗ each B4 (dn (F := F) c .zf)
        ∗ each B4 (fun b => hOut A B c (rTh b (rDg c) (rDg_le c) 1))) -∗ wpD c k Q)
      -∗ wpD c (forB (pZf c) k) Q) := by
  simp only [← each_sep]
  exact wp_forL (A := A) (B := B) (K := K) (c := c) (Q := Q) (f := pZf c) (I := fun _ => ow c [])
    (fun b bs k => by
      iintro ⟨#HR, HO, Ha, Hc, Ho⟩ Hk
      iapply (step_Zf (A := A) (B := B) (K := K) (fun p hp => absurd hp List.not_mem_nil)) $$ [Ha Hc Ho HO]
      · isplitr; · iexact HR
        isplitl [Ha]; · iexact Ha
        isplitl [Hc]; · iexact Hc
        isplitl [Ho] <;> iassumption
      iintro ⟨Hs, Hr, Hd, Ho, HO⟩
      iapply Hk
      isplitl [HO]; · iexact HO
      isplitl [Hs]; · iexact Hs
      isplitl [Hr]; · iexact Hr
      isplitl [Hd] <;> iassumption) B4 k

end Phases

end Cert.TwoPhase

end
-- ==== Proof.Cover.lean ====
/-
  How each buffer splits into the pieces the steps use, and joins back from them.
-/
module

public import proofs.«01_k».proof.Proof.Phases

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem eqv {P Q : sProp 𝕄} (h : P ⊣⊢ Q) : P = Q := Entails.antisymm h.1 h.2

/-! ## A buffer split along its four batches -/

section Bat

variable {sp : Space} {s : Shape} {e : EltTy} {c : Dev nD} {m : Memref sig .tc sp s e} {h : m.IsWhole} {q : PosShare TreeShare}
  {X : s.Idx → Elt F e} {g : s.Idx → Fin 4} {R : Fin 4 → Finset s.Idx}

theorem bat_disj (hR : ∀ b x, x ∈ R b ↔ g x = b) {a b : Fin 4} (hab : a ≠ b) : Disjoint (R a) (R b) :=
  Finset.disjoint_left.mpr fun x hx hy => hab (((hR a x).mp hx).symm.trans ((hR b x).mp hy))

theorem bat_disjs (hR : ∀ b x, x ∈ R b ↔ g x = b) : Disjoint (R 0) (R 1 ∪ (R 2 ∪ R 3)) ∧ Disjoint (R 1) (R 2 ∪ R 3) ∧ Disjoint (R 2) (R 3) :=
  ⟨Finset.disjoint_union_right.mpr ⟨bat_disj hR (by decide), Finset.disjoint_union_right.mpr ⟨bat_disj hR (by decide), bat_disj hR (by decide)⟩⟩,
    Finset.disjoint_union_right.mpr ⟨bat_disj hR (by decide), bat_disj hR (by decide)⟩, bat_disj hR (by decide)⟩

theorem bat_union (hR : ∀ b x, x ∈ R b ↔ g x = b) : (Finset.univ : Finset s.Idx) = R 0 ∪ (R 1 ∪ (R 2 ∪ R 3)) := by
  ext x
  refine ⟨fun _ => ?_, fun _ => Finset.mem_univ x⟩
  rw [Finset.mem_union, Finset.mem_union, Finset.mem_union, hR, hR, hR, hR]
  generalize g x = b
  revert b; decide

theorem each_four (P : Fin 4 → sProp 𝕄) : each B4 P = iprop(P 0 ∗ P 1 ∗ P 2 ∗ P 3) := by
  show iprop(P 0 ∗ P 1 ∗ P 2 ∗ P 3 ∗ emp) = _
  rw [eqv sep_emp]

theorem held_bat (hR : ∀ b x, x ∈ R b ↔ g x = b) : held c m h q Finset.univ X = each B4 fun b => held c m h q (R b) X := by
  obtain ⟨h0, h1, h2⟩ := bat_disjs hR
  rw [each_four, bat_union hR, eqv (held_union h0), eqv (held_union h1), eqv (held_union h2)]

theorem heldAny_bat (hR : ∀ b x, x ∈ R b ↔ g x = b) : heldAny (F := F) c m h Finset.univ = each B4 fun b => heldAny c m h (R b) := by
  obtain ⟨h0, h1, h2⟩ := bat_disjs hR
  rw [each_four, bat_union hR, eqv (heldAny_union h0), eqv (heldAny_union h1), eqv (heldAny_union h2)]

end Bat

theorem mem_rO (b : Fin 4) (x : S4x512x512.Idx) : x ∈ (rO b).set ↔ x 0 = b := by
  rw [Rect.mem_set_unit]
  constructor
  · intro h
    have h0 : b.val ≤ (x 0).val ∧ (x 0).val < b.val + 1 := h 0
    exact Fin.ext (by omega)
  · rintro rfl
    exact ax3 ⟨le_rfl, Nat.lt_succ_self _⟩ ⟨Nat.zero_le _, by have := (x 1).isLt; change (x 1).val < 512 at this; show (x 1).val < 0 + 512; omega⟩
      ⟨Nat.zero_le _, by have := (x 2).isLt; change (x 2).val < 512 at this; show (x 2).val < 0 + 512; omega⟩
theorem mem_rRe (b : Fin 4) (x : S4x128x1024.Idx) : x ∈ (rRe b).set ↔ x 0 = b := by
  rw [Rect.mem_set_unit]
  constructor
  · intro h
    have h0 : b.val ≤ (x 0).val ∧ (x 0).val < b.val + 1 := h 0
    exact Fin.ext (by omega)
  · rintro rfl
    exact ax3 ⟨le_rfl, Nat.lt_succ_self _⟩ ⟨Nat.zero_le _, by have := (x 1).isLt; change (x 1).val < 128 at this; show (x 1).val < 0 + 128; omega⟩
      ⟨Nat.zero_le _, by have := (x 2).isLt; change (x 2).val < 1024 at this; show (x 2).val < 0 + 1024; omega⟩
theorem mem_rB (b : Fin 4) (x : S4x64x1024.Idx) : x ∈ (rB b).set ↔ x 0 = b := by
  rw [Rect.mem_set_unit]
  constructor
  · intro h
    have h0 : b.val ≤ (x 0).val ∧ (x 0).val < b.val + 1 := h 0
    exact Fin.ext (by omega)
  · rintro rfl
    exact ax3 ⟨le_rfl, Nat.lt_succ_self _⟩ ⟨Nat.zero_le _, by have := (x 1).isLt; change (x 1).val < 64 at this; show (x 1).val < 0 + 64; omega⟩
      ⟨Nat.zero_le _, by have := (x 2).isLt; change (x 2).val < 1024 at this; show (x 2).val < 0 + 1024; omega⟩
theorem mem_rF (b : Fin 4) (x : S4x64x512.Idx) : x ∈ (rF b).set ↔ x 0 = b := by
  rw [Rect.mem_set_unit]
  constructor
  · intro h
    have h0 : b.val ≤ (x 0).val ∧ (x 0).val < b.val + 1 := h 0
    exact Fin.ext (by omega)
  · rintro rfl
    exact ax3 ⟨le_rfl, Nat.lt_succ_self _⟩ ⟨Nat.zero_le _, by have := (x 1).isLt; change (x 1).val < 64 at this; show (x 1).val < 0 + 64; omega⟩
      ⟨Nat.zero_le _, by have := (x 2).isLt; change (x 2).val < 512 at this; show (x 2).val < 0 + 512; omega⟩

/-! ## The two halves of the outgoing products and of the weights -/

theorem mem_rSx (b : Fin 4) (n : Fin 2) (x : S4x128x1024.Idx) : x ∈ (rSx b n).set ↔ x 0 = b ∧ 512 * n.val ≤ (x 2).val ∧ (x 2).val < 512 * n.val + 512 := by
  rw [Rect.mem_set_unit]
  constructor
  · intro h
    have h0 : b.val ≤ (x 0).val ∧ (x 0).val < b.val + 1 := h 0
    exact ⟨Fin.ext (by omega), h 2⟩
  · rintro ⟨rfl, h⟩
    exact ax3 ⟨le_rfl, Nat.lt_succ_self _⟩ ⟨Nat.zero_le _, by have := (x 1).isLt; change (x 1).val < 128 at this; show (x 1).val < 0 + 128; omega⟩ h

theorem rSx_disj (b : Fin 4) : Disjoint (rSx b 0).set (rSx b 1).set := Finset.disjoint_left.mpr fun x hx hy => by
  have hx : (x 2).val < 512 * 0 + 512 := ((mem_rSx b 0 x).mp hx).2.2
  have hy : 512 * 1 ≤ (x 2).val := ((mem_rSx b 1 x).mp hy).2.1
  omega
theorem mem_sx (b : Fin 4) (x : S4x128x1024.Idx) : x ∈ (rSx b 0).set ∪ (rSx b 1).set ↔ x 0 = b := by
  rw [Finset.mem_union, mem_rSx, mem_rSx]
  constructor
  · rintro (h | h) <;> exact h.1
  · intro h
    have h2 := (x 2).isLt
    change (x 2).val < 1024 at h2
    by_cases hx : (x 2).val < 512
    · exact .inl ⟨h, by show 512 * 0 ≤ _; omega, by show _ < 512 * 0 + 512; omega⟩
    · exact .inr ⟨h, by show 512 * 1 ≤ _; omega, by show _ < 512 * 1 + 512; omega⟩

theorem mem_rW (n : Fin 2) (x : S512x1024.Idx) : x ∈ (rW n).set ↔ 512 * n.val ≤ (x 1).val ∧ (x 1).val < 512 * n.val + 512 := by
  rw [Rect.mem_set_unit]
  constructor
  · intro h; exact h 1
  · intro h a
    match a with
    | ⟨0, _⟩ => exact ⟨Nat.zero_le _, by have := (x 0).isLt; change (x 0).val < 512 at this; show (x 0).val < 0 + 512; omega⟩
    | ⟨1, _⟩ => exact h
theorem rW_disj : Disjoint (rW 0).set (rW 1).set := Finset.disjoint_left.mpr fun x hx hy => by
  have hx : (x 1).val < 512 * 0 + 512 := ((mem_rW 0 x).mp hx).2
  have hy : 512 * 1 ≤ (x 1).val := ((mem_rW 1 x).mp hy).1
  omega
theorem rW_union : (rW 0).set ∪ (rW 1).set = Finset.univ := by
  ext x
  refine ⟨fun _ => Finset.mem_univ x, fun _ => ?_⟩
  rw [Finset.mem_union, mem_rW, mem_rW]
  have h2 := (x 1).isLt
  change (x 1).val < 1024 at h2
  by_cases hx : (x 1).val < 512
  · exact .inl ⟨by show 512 * 0 ≤ _; omega, by show _ < 512 * 0 + 512; omega⟩
  · exact .inr ⟨by show 512 * 1 ≤ _; omega, by show _ < 512 * 1 + 512; omega⟩
theorem rWW_univ : rWW.set = Finset.univ := by
  ext x
  refine ⟨fun _ => Finset.mem_univ x, fun _ => ?_⟩
  rw [Rect.mem_set_unit]
  intro a
  match a with
  | ⟨0, _⟩ => exact ⟨Nat.zero_le _, by have := (x 0).isLt; change (x 0).val < 512 at this; show (x 0).val < 0 + 512; omega⟩
  | ⟨1, _⟩ => exact ⟨Nat.zero_le _, by have := (x 1).isLt; change (x 1).val < 1024 at this; show (x 1).val < 0 + 1024; omega⟩

/-! ## The result's five pieces of a batch -/

theorem mem_rT (b : Fin 4) (r : ℕ) (hr : r ≤ 192) (x : S4x256x1024.Idx) : x ∈ (rT b r hr).set ↔ x 0 = b ∧ r ≤ (x 1).val ∧ (x 1).val < r + 64 := by
  rw [Rect.mem_set_unit]
  constructor
  · intro h
    have h0 : b.val ≤ (x 0).val ∧ (x 0).val < b.val + 1 := h 0
    exact ⟨Fin.ext (by omega), h 1⟩
  · rintro ⟨rfl, h⟩
    exact ax3 ⟨le_rfl, Nat.lt_succ_self _⟩ h ⟨Nat.zero_le _, by have := (x 2).isLt; change (x 2).val < 1024 at this; show (x 2).val < 0 + 1024; omega⟩
theorem mem_rTh (b : Fin 4) (r : ℕ) (hr : r ≤ 192) (n : Fin 2) (x : S4x256x1024.Idx) :
    x ∈ (rTh b r hr n).set ↔ x 0 = b ∧ (r ≤ (x 1).val ∧ (x 1).val < r + 64) ∧ 512 * n.val ≤ (x 2).val ∧ (x 2).val < 512 * n.val + 512 := by
  rw [Rect.mem_set_unit]
  constructor
  · intro h
    have h0 : b.val ≤ (x 0).val ∧ (x 0).val < b.val + 1 := h 0
    exact ⟨Fin.ext (by omega), h 1, h 2⟩
  · rintro ⟨rfl, h, h'⟩
    exact ax3 ⟨le_rfl, Nat.lt_succ_self _⟩ h h'

/-- The pieces of batch `b`: the own rows, the partner's, the second-axis neighbour's, the diagonal's two halves. -/
def pc (c : Dev nD) (b : Fin 4) : Fin 5 → Finset S4x256x1024.Idx
  | 0 => (rT b (rMine c) (rMine_le c)).set
  | 1 => (rT b (rFz c) (rFz_le c)).set
  | 2 => (rT b (rFy c) (rFy_le c)).set
  | 3 => (rTh b (rDg c) (rDg_le c) 0).set
  | 4 => (rTh b (rDg c) (rDg_le c) 1).set

theorem pc_disjs (c : Dev nD) (b : Fin 4) : Disjoint (pc c b 0) (pc c b 1 ∪ (pc c b 2 ∪ (pc c b 3 ∪ pc c b 4))) ∧ Disjoint (pc c b 1) (pc c b 2 ∪ (pc c b 3 ∪ pc c b 4))
    ∧ Disjoint (pc c b 2) (pc c b 3 ∪ pc c b 4) ∧ Disjoint (pc c b 3) (pc c b 4) := by
  have e0 := rMine_eq c; have e1 := rFz_eq c; have e2 := rFy_eq c; have e3 := rDg_eq c
  have hy : c.val / 4 % 2 < 2 := Nat.mod_lt _ (by decide)
  have hz : c.val % 2 < 2 := Nat.mod_lt _ (by decide)
  generalize c.val / 4 % 2 = y at *
  generalize c.val % 2 = z at *
  have f0 : ((0 : Fin 2).val) = 0 := rfl
  have f1 : ((1 : Fin 2).val) = 1 := rfl
  refine ⟨?_, ?_, ?_, ?_⟩ <;>
  · rw [Finset.disjoint_left]; intro x hx hx'
    simp only [Finset.mem_union, pc, mem_rT, mem_rTh] at hx hx'
    omega

theorem mem_pc (c : Dev nD) (b : Fin 4) (x : S4x256x1024.Idx) :
    x ∈ pc c b 0 ∪ (pc c b 1 ∪ (pc c b 2 ∪ (pc c b 3 ∪ pc c b 4))) ↔ x 0 = b := by
  have e0 := rMine_eq c; have e1 := rFz_eq c; have e2 := rFy_eq c; have e3 := rDg_eq c
  have hy : c.val / 4 % 2 < 2 := Nat.mod_lt _ (by decide)
  have hz : c.val % 2 < 2 := Nat.mod_lt _ (by decide)
  generalize c.val / 4 % 2 = y at *
  generalize c.val % 2 = z at *
  have f0 : ((0 : Fin 2).val) = 0 := rfl
  have f1 : ((1 : Fin 2).val) = 1 := rfl
  have h1 := (x 1).isLt; change (x 1).val < 256 at h1
  have h2 := (x 2).isLt; change (x 2).val < 1024 at h2
  simp only [Finset.mem_union, pc, mem_rT, mem_rTh]
  constructor
  · rintro (h | h | h | h | h) <;> exact h.1
  · intro h
    generalize (x 1).val = r at h1 ⊢
    generalize (x 2).val = s at h2 ⊢
    have key : (rMine c ≤ r ∧ r < rMine c + 64) ∨ (rFz c ≤ r ∧ r < rFz c + 64) ∨ (rFy c ≤ r ∧ r < rFy c + 64) ∨ (rDg c ≤ r ∧ r < rDg c + 64) := by omega
    have key' : (512 * 0 ≤ s ∧ s < 512 * 0 + 512) ∨ (512 * 1 ≤ s ∧ s < 512 * 1 + 512) := by omega
    rcases key with k | k | k | k
    · exact .inl ⟨h, k⟩
    · exact .inr (.inl ⟨h, k⟩)
    · exact .inr (.inr (.inl ⟨h, k⟩))
    · rcases key' with k' | k'
      · exact .inr (.inr (.inr (.inl ⟨h, k, k'⟩)))
      · exact .inr (.inr (.inr (.inr ⟨h, k, k'⟩)))

theorem held_pc {c : Dev nD} {b : Fin 4} {q : PosShare TreeShare} {X : S4x256x1024.Idx → Elt F .bf16} {h : outM.IsWhole} :
    held c outM h q (pc c b 0 ∪ (pc c b 1 ∪ (pc c b 2 ∪ (pc c b 3 ∪ pc c b 4)))) X
      = iprop(held c outM h q (pc c b 0) X ∗ held c outM h q (pc c b 1) X ∗ held c outM h q (pc c b 2) X ∗ held c outM h q (pc c b 3) X ∗ held c outM h q (pc c b 4) X) := by
  obtain ⟨h0, h1, h2, h3⟩ := pc_disjs c b
  rw [eqv (held_union h0), eqv (held_union h1), eqv (held_union h2), eqv (held_union h3)]
theorem heldAny_pc {c : Dev nD} {b : Fin 4} {h : outM.IsWhole} :
    heldAny (F := F) c outM h (pc c b 0 ∪ (pc c b 1 ∪ (pc c b 2 ∪ (pc c b 3 ∪ pc c b 4))))
      = iprop(heldAny c outM h (pc c b 0) ∗ heldAny c outM h (pc c b 1) ∗ heldAny c outM h (pc c b 2) ∗ heldAny c outM h (pc c b 3) ∗ heldAny c outM h (pc c b 4)) := by
  obtain ⟨h0, h1, h2, h3⟩ := pc_disjs c b
  rw [eqv (heldAny_union h0), eqv (heldAny_union h1), eqv (heldAny_union h2), eqv (heldAny_union h3)]

/-! ## A device's buffers before and after -/

section Bufs

variable (A : Dev nD → S4x512x512.Idx → Elt F .f32) (B : Dev nD → S512x1024.Idx → Elt F .f32) (c : Dev nD)

theorem a_split : held c aM (Memref.isWhole_whole _) fullShare Finset.univ (A c)
    = each B4 fun b => held c aM (Memref.isWhole_whole _) fullShare (rO b).set (A c) := held_bat (g := fun x => x 0) mem_rO
theorem ov_any : heldAny (F := F) c ovM (Memref.isWhole_whole _) Finset.univ = each B4 fun b => heldAny c ovM (Memref.isWhole_whole _) (rO b).set :=
  heldAny_bat (g := fun x => x 0) mem_rO
theorem ov_join : each B4 (hO A c) = held c ovM (Memref.isWhole_whole _) fullShare Finset.univ (A c) := (held_bat (g := fun x => x 0) mem_rO).symm
theorem b_split : held c bM (Memref.isWhole_whole _) fullShare Finset.univ (B c)
    = iprop(held c bM (Memref.isWhole_whole _) fullShare (rW 0).set (B c) ∗ held c bM (Memref.isWhole_whole _) fullShare (rW 1).set (B c)) := by
  rw [← rW_union]; exact eqv (held_union rW_disj)
theorem wv_any : heldAny (F := F) c wvM (Memref.isWhole_whole _) Finset.univ
    = iprop(heldAny c wvM (Memref.isWhole_whole _) (rW 0).set ∗ heldAny c wvM (Memref.isWhole_whole _) (rW 1).set) := by
  rw [← rW_union]; exact eqv (heldAny_union rW_disj)
theorem wv_join : iprop(hW B c 0 ∗ hW B c 1) = hWW B c := by
  show _ = held c wvM (Memref.isWhole_whole _) fullShare rWW.set (B c)
  rw [rWW_univ, ← rW_union]; exact (eqv (held_union rW_disj)).symm
theorem wv_all : hWW B c = held c wvM (Memref.isWhole_whole _) fullShare Finset.univ (B c) := held_of_eq rWW_univ
theorem re_any : heldAny (F := F) c reM (Memref.isWhole_whole _) Finset.univ = each B4 fun b => heldAny c reM (Memref.isWhole_whole _) (rRe b).set :=
  heldAny_bat (g := fun x => x 0) mem_rRe
theorem re_join : each B4 (hRe A B c) = held c reM (Memref.isWhole_whole _) fullShare Finset.univ (RE A B c) := (held_bat (g := fun x => x 0) mem_rRe).symm
theorem sx_any : heldAny (F := F) c sxM (Memref.isWhole_whole _) Finset.univ
    = iprop(each B4 (fun b => heldAny c sxM (Memref.isWhole_whole _) (rSx b 0).set) ∗ each B4 (fun b => heldAny c sxM (Memref.isWhole_whole _) (rSx b 1).set)) := by
  rw [heldAny_bat (g := fun x : S4x128x1024.Idx => x 0) (R := fun b => (rSx b 0).set ∪ (rSx b 1).set) mem_sx, ← each_sep]
  exact congrArg (each B4) (funext fun b => eqv (heldAny_union (rSx_disj b)))
theorem sx_join : iprop((each B4 (fun b => opay A B c (.snd (.x 0) b)) ∗ each B4 (fun b => hSrest A B c b 0))
      ∗ (each B4 (fun b => opay A B c (.snd (.x 1) b)) ∗ each B4 (fun b => hSrest A B c b 1)))
    = held c sxM (Memref.isWhole_whole _) fullShare Finset.univ (SX A B c) := by
  rw [held_bat (g := fun x : S4x128x1024.Idx => x 0) (R := fun b => (rSx b 0).set ∪ (rSx b 1).set) mem_sx, ← each_sep, ← each_sep, ← each_sep]
  refine congrArg (each B4) (funext fun b => ?_)
  rw [eqv (held_union (rSx_disj b)), eqv (held_sdiff (rSxs_sub c b 0)), eqv (held_sdiff (rSxs_sub c b 1))]
  rfl
theorem rx_any : heldAny (F := F) c rxM (Memref.isWhole_whole _) Finset.univ
    = iprop(each B4 (fun b => landB (F := F) c (.x 0) b) ∗ each B4 (fun b => landB (F := F) c (.x 1) b)) := by
  rw [heldAny_bat (g := fun x : S4x64x1024.Idx => x 0) mem_rB, ← each_sep]
  refine congrArg (each B4) (funext fun b => ?_)
  rw [← rH_union b]; exact eqv (heldAny_union (rH_disj b))
theorem rx_all : each B4 (hRx A B c) = held c rxM (Memref.isWhole_whole _) fullShare Finset.univ (RX A B c) := (held_bat (g := fun x => x 0) mem_rB).symm
theorem rz_any : heldAny (F := F) c rzM (Memref.isWhole_whole _) Finset.univ = each B4 (fun b => landB (F := F) c .z b) := heldAny_bat (g := fun x => x 0) mem_rB
theorem ry_any : heldAny (F := F) c ryM (Memref.isWhole_whole _) Finset.univ = each B4 (fun b => landB (F := F) c .y b) := heldAny_bat (g := fun x => x 0) mem_rB
theorem ryf_any : heldAny (F := F) c ryfM (Memref.isWhole_whole _) Finset.univ = each B4 (fun b => landB (F := F) c .yf b) := heldAny_bat (g := fun x => x 0) mem_rF
theorem rzf_any : heldAny (F := F) c rzfM (Memref.isWhole_whole _) Finset.univ = each B4 (fun b => landB (F := F) c .zf b) := heldAny_bat (g := fun x => x 0) mem_rF
theorem rz_join : iprop(each B4 (fun b => opay A B c (.snd .yf b)) ∗ each B4 (fun b => held c rzM (Memref.isWhole_whole _) fullShare ((rB b).set \ (rH b 0).set) (RZ A B c)))
    = held c rzM (Memref.isWhole_whole _) fullShare Finset.univ (RZ A B c) := by
  rw [held_bat (g := fun x : S4x64x1024.Idx => x 0) mem_rB, ← each_sep]
  exact congrArg (each B4) (funext fun b => (eqv (held_sdiff (rH_sub b 0))).symm)
theorem ry_join : iprop(each B4 (fun b => opay A B c (.snd .zf b)) ∗ each B4 (fun b => held c ryM (Memref.isWhole_whole _) fullShare ((rB b).set \ (rH b 1).set) (RY A B c)))
    = held c ryM (Memref.isWhole_whole _) fullShare Finset.univ (RY A B c) := by
  rw [held_bat (g := fun x : S4x64x1024.Idx => x 0) mem_rB, ← each_sep]
  exact congrArg (each B4) (funext fun b => (eqv (held_sdiff (rH_sub b 1))).symm)
theorem ryf_join : each B4 (fun b => opay A B c (.rcv .yf b)) = held c ryfM (Memref.isWhole_whole _) fullShare Finset.univ (RYF A B c) :=
  (held_bat (g := fun x => x 0) mem_rF).symm
theorem rzf_join : each B4 (fun b => opay A B c (.rcv .zf b)) = held c rzfM (Memref.isWhole_whole _) fullShare Finset.univ (RZF A B c) :=
  (held_bat (g := fun x => x 0) mem_rF).symm

theorem out_any : heldAny (F := F) c outM (hstage0_0 0) Finset.univ
    = iprop(each B4 (fun b => anyOut c (rT b (rMine c) (rMine_le c))) ∗ each B4 (fun b => anyOut c (rT b (rFz c) (rFz_le c)))
      ∗ each B4 (fun b => anyOut c (rT b (rFy c) (rFy_le c))) ∗ each B4 (fun b => anyOut c (rTh b (rDg c) (rDg_le c) 0)) ∗ each B4 (fun b => anyOut c (rTh b (rDg c) (rDg_le c) 1))) := by
  rw [heldAny_bat (g := fun x : S4x256x1024.Idx => x 0) (mem_pc c), ← each_sep, ← each_sep, ← each_sep, ← each_sep]
  exact congrArg (each B4) (funext fun b => heldAny_pc)

theorem out_join : iprop((each B4 (fun b => opay A B c (.snd .z b)) ∗ each B4 (fun b => opay A B c (.snd .y b))) ∗ each B4 (fun b => hOut A B c (rT b (rFz c) (rFz_le c)))
      ∗ each B4 (fun b => hOut A B c (rT b (rFy c) (rFy_le c))) ∗ each B4 (fun b => hOut A B c (rTh b (rDg c) (rDg_le c) 0)) ∗ each B4 (fun b => hOut A B c (rTh b (rDg c) (rDg_le c) 1)))
    = held c outM (hstage0_0 0) fullShare Finset.univ (OUT A B c) := by
  rw [held_bat (g := fun x : S4x256x1024.Idx => x 0) (mem_pc c), ← each_sep, ← each_sep, ← each_sep, ← each_sep, ← each_sep]
  refine congrArg (each B4) (funext fun b => ?_)
  rw [held_pc, eqv (held_share (R := pc c b 0) (PosShare.mem_left_op_right fullShare))]
  rfl

end Bufs

end Cert.TwoPhase

end
-- ==== Proof.Whole.lean ====
/-
  The whole body at any device.
-/
module

public import proofs.«01_k».proof.Proof.Cover

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32) {K : GSem nD τ sig → ℕ}

/-! ## Something for every own cell, kind by kind -/

/-- Something for every kind and batch. -/
def six (Φ : Kd → Fin 4 → sProp 𝕄) : sProp 𝕄 :=
  iprop(each B4 (Φ (.x 0)) ∗ each B4 (Φ (.x 1)) ∗ each B4 (Φ .z) ∗ each B4 (Φ .y) ∗ each B4 (Φ .yf) ∗ each B4 (Φ .zf))

theorem six_eq (Φ : Kd → Fin 4 → sProp 𝕄) : bigSep Finset.univ (fun kb : Kd × Fin 4 => Φ kb.1 kb.2) = six Φ := by
  have h4 (k : Kd) : bigSep Finset.univ (fun b : Fin 4 => Φ k b) = each B4 (Φ k) := by
    rw [each_four, bigSep_univ_eq_bigSepL [0, 1, 2, 3] (by decide) (by decide), bigSepL_cons_cons, bigSepL_cons_cons, bigSepL_cons_cons, bigSepL_singleton]; rfl
  rw [bigSep_univ_prod, bigSep_congr (s := Finset.univ) (Ψ := fun k => each B4 (Φ k)) (fun k _ => h4 k),
    bigSep_univ_eq_bigSepL [.x 0, .x 1, .z, .y, .yf, .zf] (by decide) (by decide),
    bigSepL_cons_cons, bigSepL_cons_cons, bigSepL_cons_cons, bigSepL_cons_cons, bigSepL_cons_cons, bigSepL_singleton]
  rfl

theorem six_sep (Φ Ψ : Kd → Fin 4 → sProp 𝕄) : six (fun k b => iprop(Φ k b ∗ Ψ k b)) = iprop(six Φ ∗ six Ψ) := by
  rw [← six_eq, ← six_eq, ← six_eq]; exact bigSep_sep' ..

/-- Something for every own cell: the loads', the sends', the receives'. -/
theorem own_split (Φ : OK → sProp 𝕄) : bigSep Finset.univ Φ
    = iprop((each B4 (fun b => Φ (.ldO b)) ∗ Φ (.ldW 0) ∗ Φ (.ldW 1)) ∗ six (fun k b => Φ (.snd k b)) ∗ six (fun k b => Φ (.rcv k b))) := by
  have h4 : bigSep Finset.univ (fun b : Fin 4 => Φ (.ldO b)) = each B4 (fun b => Φ (.ldO b)) := by
    rw [each_four, bigSep_univ_eq_bigSepL [0, 1, 2, 3] (by decide) (by decide), bigSepL_cons_cons, bigSepL_cons_cons, bigSepL_cons_cons, bigSepL_singleton]; rfl
  have h2 : bigSep Finset.univ (fun b : Fin 2 => Φ (.ldW b)) = iprop(Φ (.ldW 0) ∗ Φ (.ldW 1)) := BI.bigSep_fin_two _
  have hb : bigSep Finset.univ (fun x : Bool × Kd × Fin 4 => Φ (.inr x)) = iprop(six (fun k b => Φ (.snd k b)) ∗ six (fun k b => Φ (.rcv k b))) := by
    rw [bigSep_univ_prod, bigSep_univ_eq_bigSepL [false, true] (by decide) (by decide), bigSepL_cons_cons, bigSepL_singleton, ← six_eq, ← six_eq]; rfl
  rw [bigSep_univ_sum, bigSep_univ_sum, h4, h2, hb]
  rfl

/-! ## What a device enters the body with and leaves it with -/

/-- The scratch buffers, at any contents. -/
def scr (c : Dev nD) : sProp 𝕄 :=
  iprop(heldAny c ovM (Memref.isWhole_whole _) Finset.univ ∗ heldAny c wvM (Memref.isWhole_whole _) Finset.univ ∗ heldAny c reM (Memref.isWhole_whole _) Finset.univ
    ∗ heldAny c sxM (Memref.isWhole_whole _) Finset.univ ∗ heldAny c rxM (Memref.isWhole_whole _) Finset.univ ∗ heldAny c rzM (Memref.isWhole_whole _) Finset.univ
    ∗ heldAny c ryM (Memref.isWhole_whole _) Finset.univ ∗ heldAny c ryfM (Memref.isWhole_whole _) Finset.univ ∗ heldAny c rzfM (Memref.isWhole_whole _) Finset.univ)
/-- The scratch buffers in the pieces the steps use. -/
theorem scr_split (c : Dev nD) : scr (F := F) c
    = iprop(each B4 (fun b => heldAny c ovM (Memref.isWhole_whole _) (rO b).set)
      ∗ (heldAny c wvM (Memref.isWhole_whole _) (rW 0).set ∗ heldAny c wvM (Memref.isWhole_whole _) (rW 1).set)
      ∗ each B4 (fun b => heldAny c reM (Memref.isWhole_whole _) (rRe b).set)
      ∗ (each B4 (fun b => heldAny c sxM (Memref.isWhole_whole _) (rSx b 0).set) ∗ each B4 (fun b => heldAny c sxM (Memref.isWhole_whole _) (rSx b 1).set))
      ∗ (each B4 (landB c (.x 0)) ∗ each B4 (landB c (.x 1))) ∗ each B4 (landB c .z) ∗ each B4 (landB c .y) ∗ each B4 (landB c .yf) ∗ each B4 (landB c .zf)) := by
  unfold scr
  rw [ov_any, wv_any, re_any, sx_any, rx_any, rz_any, ry_any, ryf_any, rzf_any]
/-- The arguments' buffers. -/
def args (c : Dev nD) : sProp 𝕄 :=
  iprop(held c aM (Memref.isWhole_whole _) fullShare Finset.univ (A c) ∗ held c bM (Memref.isWhole_whole _) fullShare Finset.univ (B c))

/-- The device that pays an own cell's name when device `c` does. -/
def tgt (c : Dev nD) : OK → Dev nD
  | .rcv k _ => peer k c
  | _ => c

/-- The tokens of what device `c` pays, beside its barrier announcements. -/
def toks (c : Dev nD) : sProp 𝕄 := bigSep Finset.univ fun o : OK => tok (tgt c o) o
/-- Its own cells at a round, and that they are open. -/
def ats (c : Dev nD) (r : ℕ) : sProp 𝕄 := bigSep Finset.univ fun o : OK => at_ c o r
def rchs (c : Dev nD) : sProp 𝕄 := bigSep Finset.univ fun o : OK => rch c o
/-- Its receive cells' credit. -/
def crs (c : Dev nD) : sProp 𝕄 := six fun k b => cr c (.rcv k b)
/-- Its barrier cell and its announcements' tokens. -/
def bars (c : Dev nD) : sProp 𝕄 :=
  iprop((dutyTok ER (cel (dir 0 c) none) 0 0 ∗ dutyTok ER (cel (dir 1 c) none) 0 1 ∗ dutyTok ER (cel (dir 2 c) none) 0 2)
    ∗ atPos ER (cel c none) 0 ∅ 0 ∗ cred (tallyAt (cel c none) () 3))

/-- The cells' resources, grouped by what uses them. -/
theorem regroup (c : Dev nD) : iprop(ats (F := F) c 0 ∗ rchs (F := F) c ∗ toks (F := F) c ∗ crs (F := F) c)
    ⊢ iprop((each B4 (fun b => at_ (F := F) c (.ldO b) 0) ∗ at_ (F := F) c (.ldW 0) 0 ∗ at_ (F := F) c (.ldW 1) 0)
      ∗ (each B4 (fun b => iprop(tok (F := F) c (.ldO b) ∗ rch (F := F) c (.ldO b))) ∗ (tok (F := F) c (.ldW 0) ∗ rch (F := F) c (.ldW 0)) ∗ (tok (F := F) c (.ldW 1) ∗ rch (F := F) c (.ldW 1)))
      ∗ six (aw (F := F) c) ∗ six (tx (F := F) c) ∗ six (fun k b => rch (F := F) c (.rcv k b))) := by
  unfold ats rchs toks crs
  rw [own_split, own_split, own_split, each_sep,
    show six (aw (F := F) c) = iprop(six (fun k b => at_ (F := F) c (.snd k b) 0) ∗ six (fun k b => at_ (F := F) c (.rcv k b) 0) ∗ six (fun k b => cr (F := F) c (.rcv k b))) from by
      rw [← six_sep, ← six_sep]; rfl,
    show six (tx (F := F) c) = iprop(six (fun k b => tok (F := F) c (.snd k b)) ∗ six (fun k b => rch (F := F) c (.snd k b)) ∗ six (fun k b => tok (F := F) (peer k c) (.rcv k b))) from by
      rw [← six_sep, ← six_sep]; rfl]
  iintro ⟨⟨⟨A1, A2, A3⟩, A4, A5⟩, ⟨⟨R1, R2, R3⟩, R4, R5⟩, ⟨⟨T1, T2, T3⟩, T4, T5⟩, C⟩
  isplitl [A1 A2 A3]
  · isplitl [A1]; · iexact A1
    isplitl [A2] <;> iassumption
  isplitl [T1 T2 T3 R1 R2 R3]
  · isplitl [T1 R1]
    · isplitl [T1]; · iexact T1
      iexact R1
    isplitl [T2 R2]
    · isplitl [T2]; · iexact T2
      iexact R2
    · isplitl [T3]; · iexact T3
      iexact R3
  isplitl [A4 A5 C]
  · isplitl [A4]; · iexact A4
    isplitl [A5]; · iexact A5
    iexact C
  isplitl [T4 R4 T5]
  · isplitl [T4]; · iexact T4
    isplitl [R4]; · iexact R4
    iexact T5
  iexact R5

/-- The cells back, all one round on. -/
theorem regroup' (c : Dev nD) : iprop((each B4 (fun b => at_ (F := F) c (.ldO b) 1) ∗ at_ (F := F) c (.ldW 0) 1 ∗ at_ (F := F) c (.ldW 1) 1) ∗ six (dn (F := F) c)) ⊢ ats (F := F) c 1 := by
  unfold ats
  rw [own_split, show six (dn (F := F) c) = iprop(six (fun k b => at_ (F := F) c (.snd k b) 1) ∗ six (fun k b => at_ (F := F) c (.rcv k b) 1)) from by
      rw [← six_sep]; rfl]

theorem lands_eq (c : Dev nD) (k : Kd) : lands (F := F) c k = iprop(each B4 (landB (F := F) c k) ∗ each B4 (fun b => rch (F := F) c (.rcv k b))) := by
  rw [← each_sep]; rfl

theorem gO_eq (c : Dev nD) : each B4 (gO (A := A) c) = iprop(each B4 (fun b => held c aM (Memref.isWhole_whole _) fullShare (rO b).set (A c))
    ∗ each B4 (fun b => heldAny (F := F) c ovM (Memref.isWhole_whole _) (rO b).set) ∗ each B4 (fun b => iprop(tok (F := F) c (.ldO b) ∗ rch (F := F) c (.ldO b)))) := by
  rw [← each_sep, ← each_sep]; rfl

theorem gXX_eq (c : Dev nD) : each B4 (gXX (F := F) c) = iprop((each B4 (fun b => at_ (F := F) c (.ldO b) 0) ∗ each B4 (fun b => cr (F := F) c (.ldO b)))
    ∗ (each B4 (fun b => heldAny (F := F) c sxM (Memref.isWhole_whole _) (rSx b 0).set) ∗ lands (F := F) (xp c) (.x 0) ∗ each B4 (tx (F := F) c (.x 0)))
    ∗ (each B4 (fun b => heldAny (F := F) c sxM (Memref.isWhole_whole _) (rSx b 1).set) ∗ lands (F := F) (xp c) (.x 1) ∗ each B4 (tx (F := F) c (.x 1)))) := by
  unfold lands
  rw [← each_sep, ← each_sep, ← each_sep, ← each_sep, ← each_sep, ← each_sep, ← each_sep]; rfl

theorem gXX'_eq (c : Dev nD) : each B4 (gXX' (A := A) (B := B) c) = iprop(each B4 (hO A c)
    ∗ (each B4 (fun b => held c aM (Memref.isWhole_whole _) fullShare (rO b).set (A c)) ∗ each B4 (fun b => at_ (F := F) c (.ldO b) 1))
    ∗ (each B4 (fun b => hSrest A B c b 0) ∗ each B4 (fun b => cr (F := F) c (.snd (.x 0) b)))
    ∗ (each B4 (fun b => hSrest A B c b 1) ∗ each B4 (fun b => cr (F := F) c (.snd (.x 1) b)))) := by
  rw [← each_sep, ← each_sep, ← each_sep, ← each_sep, ← each_sep, ← each_sep]; rfl

/-- The whole body: from the arguments, the other buffers at any contents and the cells, to the result in place and
    everything else back. -/
theorem run_prog (c : Dev nD) {Q : PUnit → sProp (MT nD τ sig Unit (Elt F) ℕ UU ℕ)} :
    iprop(recs A B K ∗ (args A B c ∗ heldAny (F := F) c outM (hstage0_0 0) Finset.univ ∗ scr (F := F) c)
      ∗ (ats (F := F) c 0 ∗ rchs (F := F) c ∗ toks (F := F) c ∗ crs (F := F) c) ∗ bars (F := F) c ∗ ow c dues0)
    ⊢ iprop((((args A B c ∗ held c outM (hstage0_0 0) fullShare Finset.univ (OUT A B c) ∗ scr (F := F) c)
      ∗ ats (F := F) c 1 ∗ atPos ER (cel c none) 1 ∅ 0 ∗ ow c []) -∗ wpD c (.ret ⟨⟩) Q) -∗ wpD c (prog (F := F) c) Q) := by
  unfold prog args bars
  rw [a_split, b_split, out_any]
  iintro ⟨#HR, ⟨⟨Ha, ⟨Hb0, Hb1⟩⟩, ⟨Om, Oz, Oy, Od0, Od1⟩, Hs⟩, Hg, ⟨⟨T0, T1, T2⟩, Hat, Hcb⟩, HO⟩ Hk
  ihave Hs := (Entails.of_eq (scr_split (F := F) c)) $$ Hs
  icases Hs with ⟨Hov, ⟨Hw0, Hw1⟩, Hre, ⟨Hs0, Hs1⟩, ⟨Lx0, Lx1⟩, Lz, Ly, Lyf, Lzf⟩
  ihave Hg := (regroup (F := F) c) $$ Hg
  unfold six
  icases Hg with ⟨⟨AO, AW0, AW1⟩, ⟨TO, TW0, TW1⟩, ⟨Wx0, Wx1, Wz, Wy, Wyf, Wzf⟩, ⟨Xx0, Xx1, Xz, Xy, Xyf, Xzf⟩, ⟨Rx0, Rx1, Rz, Ry, Ryf, Rzf⟩⟩
  icases TW0 with ⟨TW0, RW0⟩
  icases TW1 with ⟨TW1, RW1⟩
  -- the loads
  iapply (phase_Ld (A := A) (B := B) (K := K)) $$ [Ha Hov TO Hb0 Hw0 TW0 RW0 Hb1 Hw1 TW1 RW1]
  · isplitr; · iexact HR
    unfold gW
    isplitl [Hb0 Hw0 TW0 RW0]
    · isplitl [Hb0]; · iexact Hb0
      isplitl [Hw0]; · iexact Hw0
      isplitl [TW0] <;> iassumption
    isplitl [Hb1 Hw1 TW1 RW1]
    · isplitl [Hb1]; · iexact Hb1
      isplitl [Hw1]; · iexact Hw1
      isplitl [TW1] <;> iassumption
    rw [gO_eq]
    isplitl [Ha]; · iexact Ha
    isplitl [Hov] <;> iassumption
  iintro ⟨CW0, CW1, CO⟩
  -- the barrier
  rw [show dues0 = .bar 0 :: .bar 1 :: .bar 2 :: dues1 from rfl]
  iapply (step_Bar (A := A) (B := B) (K := K) (lv_dues1 B4)) $$ [Lx0 Lx1 Lz Ly Lyf Lzf Rx0 Rx1 Rz Ry Ryf Rzf T0 T1 T2 Hat Hcb HO]
  · isplitr; · iexact HR
    rw [lands_eq, lands_eq, lands_eq, lands_eq, lands_eq, lands_eq]
    isplitl [Lx0 Lx1 Rx0 Rx1]
    · isplitl [Lx0 Rx0]
      · isplitl [Lx0] <;> iassumption
      · isplitl [Lx1] <;> iassumption
    isplitl [Ly Lyf Ry Ryf]
    · isplitl [Ly Ry]
      · isplitl [Ly] <;> iassumption
      · isplitl [Lyf] <;> iassumption
    isplitl [Lz Lzf Rz Rzf]
    · isplitl [Lz Rz]
      · isplitl [Lz] <;> iassumption
      · isplitl [Lzf] <;> iassumption
    isplitl [T0]; · iexact T0
    isplitl [T1]; · iexact T1
    isplitl [T2]; · iexact T2
    isplitl [Hat]; · iexact Hat
    isplitl [Hcb]; · iexact Hcb
    iexact HO
  iintro ⟨⟨Lx0, Lx1⟩, ⟨Ly, Lyf⟩, ⟨Lz, Lzf⟩, Hat, HO⟩
  -- the first exchange's sends
  iapply (phase_X (A := A) (B := B) (K := K)) $$ [AW0 CW0 AW1 CW1 AO CO Hs0 Lx0 Xx0 Hs1 Lx1 Xx1 HO]
  · isplitr; · iexact HR
    isplitl [AW0 CW0]
    · isplitl [AW0] <;> iassumption
    isplitl [AW1 CW1]
    · isplitl [AW1] <;> iassumption
    isplitr [HO]
    · rw [gXX_eq]
      isplitl [AO CO]
      · isplitl [AO] <;> iassumption
      isplitl [Hs0 Lx0 Xx0]
      · isplitl [Hs0]; · iexact Hs0
        isplitl [Lx0] <;> iassumption
      · isplitl [Hs1]; · iexact Hs1
        isplitl [Lx1] <;> iassumption
    iexact HO
  rw [gXX'_eq, wv_join]
  iintro ⟨⟨Hw, ⟨Hb0, Hb1⟩⟩, ⟨AW0, AW1⟩, ⟨Hov, ⟨Ha, AO⟩, ⟨Sr0, Cx0⟩, ⟨Sr1, Cx1⟩⟩, HO⟩
  -- the kept products
  iapply (phase_Re (A := A) (B := B) (K := K)) $$ [Hw Hov Hre]
  · isplitr; · iexact HR
    isplitl [Hw]; · iexact Hw
    isplitl [Hov] <;> iassumption
  iintro ⟨Hw, Hov, Hre⟩
  -- the own rows
  iapply (phase_Mine (A := A) (B := B) (K := K)) $$ [HO Wx0 Cx0 Wx1 Cx1 Hre Om Lz Xz Ly Xy]
  · isplitr; · iexact HR
    isplitl [HO]; · iexact HO
    isplitl [Wx0]; · iexact Wx0
    isplitl [Cx0]; · iexact Cx0
    isplitl [Wx1]; · iexact Wx1
    isplitl [Cx1]; · iexact Cx1
    isplitl [Hre]; · iexact Hre
    isplitl [Om]; · iexact Om
    unfold lands
    isplitl [Lz]; · iexact Lz
    isplitl [Xz]; · iexact Xz
    isplitl [Ly] <;> iassumption
  iintro ⟨HO, Sx0, Sx1, Dx0, Dx1, Hre, Hrx, Cz, Cy⟩
  unfold lands
  -- the partner's rows
  iapply (phase_Z (A := A) (B := B) (K := K)) $$ [HO Wz Cz Oz Lyf Xyf]
  · isplitr; · iexact HR
    isplitl [HO]; · iexact HO
    isplitl [Wz]; · iexact Wz
    isplitl [Cz]; · iexact Cz
    isplitl [Oz]; · iexact Oz
    isplitl [Lyf] <;> iassumption
  iintro ⟨HO, Sz, Dz, Oz, Rz, Cyf⟩
  -- the second-axis neighbour's rows
  iapply (phase_Y (A := A) (B := B) (K := K)) $$ [HO Wy Cy Oy Lzf Xzf]
  · isplitr; · iexact HR
    isplitl [HO]; · iexact HO
    isplitl [Wy]; · iexact Wy
    isplitl [Cy]; · iexact Cy
    isplitl [Oy]; · iexact Oy
    isplitl [Lzf] <;> iassumption
  iintro ⟨HO, Sy, Dy, Oy, Ry, Czf⟩
  -- the diagonal's rows
  iapply (phase_Yf (A := A) (B := B) (K := K)) $$ [HO Wyf Cyf Od0]
  · isplitr; · iexact HR
    isplitl [HO]; · iexact HO
    isplitl [Wyf]; · iexact Wyf
    isplitl [Cyf] <;> iassumption
  iintro ⟨HO, Syf, Vyf, Dyf, Od0⟩
  iapply (phase_Zf (A := A) (B := B) (K := K)) $$ [HO Wzf Czf Od1]
  · isplitr; · iexact HR
    isplitl [HO]; · iexact HO
    isplitl [Wzf]; · iexact Wzf
    isplitl [Czf] <;> iassumption
  iintro ⟨HO, Szf, Vzf, Dzf, Od1⟩
  -- everything back
  iapply Hk
  unfold scr
  isplitr [AO AW0 AW1 Dx0 Dx1 Dz Dy Dyf Dzf Hat HO]
  · isplitl [Ha Hb0 Hb1]
    · isplitl [Ha]; · iexact Ha
      isplitl [Hb0] <;> iassumption
    isplitl [Sz Sy Oz Oy Od0 Od1]
    · iapply (Entails.of_eq (out_join A B c))
      isplitl [Sz Sy]
      · isplitl [Sz] <;> iassumption
      isplitl [Oz]; · iexact Oz
      isplitl [Oy]; · iexact Oy
      isplitl [Od0] <;> iassumption
    isplitl [Hov]; · iapply held_any; iapply (Entails.of_eq (ov_join A c)) $$ Hov
    isplitl [Hw]; · iapply held_any; iapply (Entails.of_eq (wv_all B c)) $$ Hw
    isplitl [Hre]; · iapply held_any; iapply (Entails.of_eq (re_join A B c)) $$ Hre
    isplitl [Sx0 Sx1 Sr0 Sr1]
    · iapply held_any; iapply (Entails.of_eq (sx_join A B c))
      isplitl [Sx0 Sr0]
      · isplitl [Sx0] <;> iassumption
      · isplitl [Sx1] <;> iassumption
    isplitl [Hrx]; · iapply held_any; iapply (Entails.of_eq (rx_all A B c)) $$ Hrx
    isplitl [Syf Rz]
    · iapply held_any; iapply (Entails.of_eq (rz_join A B c))
      isplitl [Syf] <;> iassumption
    isplitl [Szf Ry]
    · iapply held_any; iapply (Entails.of_eq (ry_join A B c))
      isplitl [Szf] <;> iassumption
    isplitl [Vyf]; · iapply held_any; iapply (Entails.of_eq (ryf_join A B c)) $$ Vyf
    iapply held_any; iapply (Entails.of_eq (rzf_join A B c)) $$ Vzf
  isplitr [Hat HO]
  · iapply (regroup' (F := F) c)
    unfold six
    isplitl [AO AW0 AW1]
    · isplitl [AO]; · iexact AO
      isplitl [AW0] <;> iassumption
    isplitl [Dx0]; · iexact Dx0
    isplitl [Dx1]; · iexact Dx1
    isplitl [Dz]; · iexact Dz
    isplitl [Dy]; · iexact Dy
    isplitl [Dyf] <;> iassumption
  isplitl [Hat] <;> iassumption

end Cert.TwoPhase

end
-- ==== Proof.Deal.lean ====
/-
  The launch's resources: every cell's invariant, the tokens dealt to the devices that pay them, the launch credit, and opening and closing the cells.
-/
module

public import proofs.«01_k».proof.Proof.Whole

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S4x512x512.Idx → Elt F .f32) (B : Dev nD → S512x1024.Idx → Elt F .f32)

/-! ## Opening and closing the cells -/

/-- The right to open each own cell. -/
def opens (c : Dev nD) : sProp 𝕄 := bigSep Finset.univ fun o : OK => openTok ER (cel c (some o))
/-- The own counters at zero. -/
def zeros (c : Dev nD) : sProp 𝕄 := bigSep Finset.univ fun o : OK => semVal (cel c (some o)) 0

theorem open_one {K : GSem nD τ sig → ℕ} (c : Dev nD) (o : OK) : iprop(recs A B K ∗ (openTok ER (cel c (some o)) ∗ semVal (cel c (some o)) 0))
    ⊢ (|={Set.univ}=> (at_ (F := F) c o 0 ∗ rch (F := F) c o) : sProp 𝕄) := by
  iintro ⟨#HR, H1, H2⟩
  imod (Rounds.cell_open ER (Rd A B) (g := cel c (some o)) (Set.mem_univ (K (cel c (some o))))) $$ [H1 H2] with ⟨HA, #HS⟩
  · isplitr; · iapply (recs_inv A B K c (some o)); iexact HR
    isplitl [H1] <;> iassumption
  imodintro
  unfold at_ rch
  isplitl [HA]; · iexact HA
  iexact HS

theorem close_one {K : GSem nD τ sig → ℕ} (c : Dev nD) (k : Option OK) : iprop(recs A B K ∗ atPos ER (cel c k) 1 ∅ 0)
    ⊢ (|={Set.univ}=> semVal (cel c k) 0 : sProp 𝕄) := by
  iintro ⟨#HR, H1⟩
  iapply (Rounds.cell_close ER (Rd A B) (Set.mem_univ (K (cel c k))) (fun h => h) (R := 0 + 1) (duties_later A B (cel c k)))
  isplitr; · iapply (recs_inv A B K c k); iexact HR
  iexact H1

theorem open_all {K : GSem nD τ sig → ℕ} (c : Dev nD) : iprop(recs A B K ∗ opens (F := F) c ∗ zeros (F := F) c)
    ⊢ (|={Set.univ}=> (ats (F := F) c 0 ∗ rchs (F := F) c) : sProp 𝕄) := by
  classical
  have h : iprop(recs A B K ∗ bigSep Finset.univ fun o : OK => iprop(openTok ER (cel c (some o)) ∗ semVal (cel c (some o)) 0))
      ⊢ (bigSep Finset.univ fun o : OK => iprop(|={Set.univ}=> (at_ (F := F) c o 0 ∗ rch (F := F) c o)) : sProp 𝕄) :=
    bigSep_with_persistent fun o _ => open_one A B c o
  have h2 : (bigSep Finset.univ fun o : OK => iprop(|={Set.univ}=> (at_ (F := F) c o 0 ∗ rch (F := F) c o)) : sProp 𝕄)
      ⊢ iprop(|={Set.univ}=> bigSep Finset.univ fun o : OK => iprop(at_ (F := F) c o 0 ∗ rch (F := F) c o)) := bigSep_fupd _ _
  unfold ats rchs opens zeros
  rw [← bigSep_sep', ← bigSep_sep']
  iintro H
  iapply h2
  iapply h
  iexact H

theorem close_all {K : GSem nD τ sig → ℕ} (c : Dev nD) : iprop(recs A B K ∗ ats (F := F) c 1) ⊢ (|={Set.univ}=> zeros (F := F) c : sProp 𝕄) := by
  classical
  have h : iprop(recs A B K ∗ bigSep Finset.univ fun o : OK => at_ (F := F) c o 1)
      ⊢ (bigSep Finset.univ fun o : OK => iprop(|={Set.univ}=> semVal (cel c (some o)) 0) : sProp 𝕄) :=
    bigSep_with_persistent fun o _ => close_one A B c (some o)
  have h2 : (bigSep Finset.univ fun o : OK => iprop(|={Set.univ}=> semVal (cel c (some o)) 0) : sProp 𝕄)
      ⊢ iprop(|={Set.univ}=> bigSep Finset.univ fun o : OK => semVal (cel c (some o)) 0) := bigSep_fupd _ _
  unfold ats zeros
  iintro H
  iapply h2
  iapply h
  iexact H

/-! ## The cells and the tokens at launch -/

def barEmb : Dev nD ↪ GSem nD τ sig := ⟨fun c => cel c none, fun a b h => congrArg Prod.fst (cel_inj (a₁ := (a, none)) (a₂ := (b, none)) h)⟩
def ownEmb : Dev nD × OK ↪ GSem nD τ sig := ⟨fun co => cel co.1 (some co.2), fun a b h => by
  have e := cel_inj (a₁ := (a.1, some a.2)) (a₂ := (b.1, some b.2)) h
  exact Prod.ext (congrArg (fun t => t.1) e) (Option.some.inj (congrArg (fun t => t.2) e))⟩
/-- The barrier cells, and the own cells. -/
def barCells : Finset (GSem nD τ sig) := Finset.univ.map barEmb
def ownCells : Finset (GSem nD τ sig) := Finset.univ.map ownEmb

/-- A duty's name on its device: a barrier duty by its direction, an own cell's by the cell. -/
abbrev TN : Type := Fin 3 ⊕ OK
def TN.at (c : Dev nD) : TN → GSem nD τ sig × ℕ × Fin 3
  | .inl d => (cel c none, 0, d)
  | .inr o => (cel c (some o), 0, 0)
def tokEmb : Dev nD × TN ↪ GSem nD τ sig × ℕ × Fin 3 := ⟨fun ct => TN.at ct.1 ct.2, by
  rintro ⟨a, d | o⟩ ⟨b, d' | o'⟩ h
  · have e := cel_inj (a₁ := (a, none)) (a₂ := (b, none)) (congrArg Prod.fst h)
    have e2 : d = d' := congrArg (fun t => t.2.2) h
    rw [e2, show a = b from congrArg Prod.fst e]
  · exact absurd (congrArg Prod.snd (cel_inj (a₁ := (a, none)) (a₂ := (b, some o')) (congrArg Prod.fst h))) (by simp)
  · exact absurd (congrArg Prod.snd (cel_inj (a₁ := (a, some o)) (a₂ := (b, none)) (congrArg Prod.fst h))) (by simp)
  · have e := cel_inj (a₁ := (a, some o)) (a₂ := (b, some o')) (congrArg Prod.fst h)
    rw [show a = b from congrArg Prod.fst e, show o = o' from Option.some.inj (congrArg Prod.snd e)]⟩
/-- Every duty of every cell. -/
def allToks : Finset (GSem nD τ sig × ℕ × Fin 3) := Finset.univ.map tokEmb

theorem cells_disjoint : Disjoint barCells ownCells := by
  rw [Finset.disjoint_left]
  rintro g h₁ h₂
  obtain ⟨c, -, rfl⟩ := Finset.mem_map.mp h₁
  obtain ⟨co, -, h⟩ := Finset.mem_map.mp h₂
  exact absurd (congrArg Prod.snd (cel_inj (a₁ := (co.1, some co.2)) (a₂ := (c, none)) h)) (by simp)

theorem cel_mem (c : Dev nD) (k : Option OK) : cel c k ∈ barCells ∪ ownCells := by
  cases k with
  | none => exact Finset.mem_union_left _ (Finset.mem_map_of_mem barEmb (Finset.mem_univ c))
  | some o => exact Finset.mem_union_right _ (Finset.mem_map_of_mem ownEmb (Finset.mem_univ (c, o)))

/-- The tokens of the barrier announcements device `c` makes. -/
def annToks (c : Dev nD) : sProp 𝕄 :=
  iprop(dutyTok ER (cel (dir 0 c) none) 0 0 ∗ dutyTok ER (cel (dir 1 c) none) 0 1 ∗ dutyTok ER (cel (dir 2 c) none) 0 2)

def dirEquiv (d : Fin 3) : Dev nD ≃ Dev nD := ⟨dir d, dir d, dir_dir d, dir_dir d⟩
theorem tgt_tgt (c : Dev nD) (o : OK) : tgt (tgt c o) o = c := by
  rcases o with (b | n) | ⟨_ | _, k, b⟩
  · rfl
  · rfl
  · rfl
  · exact peer_peer k c
def tgtEquiv : Dev nD × OK ≃ Dev nD × OK := ⟨fun co => (tgt co.1 co.2, co.2), fun co => (tgt co.1 co.2, co.2),
  fun co => Prod.ext (tgt_tgt _ _) rfl, fun co => Prod.ext (tgt_tgt _ _) rfl⟩

/-- Every token, handed to the device that pays it. -/
theorem toks_around : bigSep allToks (fun x => (dutyTok ER x.1 x.2.1 x.2.2 : sProp 𝕄))
    = bigSep Finset.univ fun c : Dev nD => iprop(annToks (F := F) c ∗ toks (F := F) c) := by
  have h3 (c : Dev nD) : bigSep Finset.univ (fun d : Fin 3 => (dutyTok ER (cel c none) 0 d : sProp 𝕄))
      = iprop(dutyTok ER (cel c none) 0 0 ∗ dutyTok ER (cel c none) 0 1 ∗ dutyTok ER (cel c none) 0 2) := by
    rw [bigSep_univ_eq_bigSepL [0, 1, 2] (by decide) (by decide), bigSepL_cons_cons, bigSepL_cons_cons, bigSepL_singleton]; rfl
  have hl : bigSep allToks (fun x => (dutyTok ER x.1 x.2.1 x.2.2 : sProp 𝕄))
      = bigSep Finset.univ (fun c : Dev nD => iprop((dutyTok ER (cel c none) 0 0 ∗ dutyTok ER (cel c none) 0 1 ∗ dutyTok ER (cel c none) 0 2)
        ∗ bigSep Finset.univ fun o : OK => tok (F := F) c o)) := by
    unfold allToks
    rw [bigSep_map, bigSep_univ_prod]
    exact bigSep_congr fun c _ => by
      rw [bigSep_univ_sum, ← h3]; rfl
  have ht : bigSep Finset.univ (fun c : Dev nD => bigSep Finset.univ fun o : OK => tok (F := F) c o) = bigSep Finset.univ fun c : Dev nD => toks (F := F) c := by
    unfold toks
    rw [← bigSep_univ_prod (fun co : Dev nD × OK => tok (F := F) co.1 co.2), ← bigSep_univ_prod (fun co : Dev nD × OK => tok (F := F) (tgt co.1 co.2) co.2),
      bigSep_univ_equiv tgtEquiv]; rfl
  rw [hl]
  unfold annToks
  rw [bigSep_sep', bigSep_sep', bigSep_sep', bigSep_sep', bigSep_sep', bigSep_sep', ht,
    bigSep_univ_equiv (dirEquiv 0) (fun c : Dev nD => (dutyTok ER (cel c none) 0 0 : sProp 𝕄)),
    bigSep_univ_equiv (dirEquiv 1) (fun c : Dev nD => (dutyTok ER (cel c none) 0 1 : sProp 𝕄)),
    bigSep_univ_equiv (dirEquiv 2) (fun c : Dev nD => (dutyTok ER (cel c none) 0 2 : sProp 𝕄))]
  rfl

/-- Every cell's invariant, and the barrier cells open. -/
def invs (K : GSem nD τ sig → ℕ) : sProp 𝕄 :=
  iprop((bigSep Finset.univ fun ck : Dev nD × Option OK => cellInv ER (Rd A B) (K (cel ck.1 ck.2)) (cel ck.1 ck.2))
    ∗ (bigSep Finset.univ fun c : Dev nD => reached ER (cel c none) 0))
instance invs_persistent (K : GSem nD τ sig → ℕ) : BI.Persistent (invs A B K : sProp 𝕄) := by unfold invs; infer_instance

/-- Two things for every device, as one. -/
theorem dealt (P Q : Dev nD → sProp 𝕄) : iprop(bigSep Finset.univ P ∗ bigSep Finset.univ Q) ⊢ bigSep Finset.univ fun c => iprop(P c ∗ Q c) :=
  Entails.of_eq (bigSep_sep' ..).symm

/-- What of the cells' resources stays with device `c` at launch. -/
def lin (c : Dev nD) : sProp 𝕄 := iprop(atPos ER (cel c none) 0 ∅ 0 ∗ opens (F := F) c ∗ annToks (F := F) c ∗ toks (F := F) c)

theorem invs_of (K : GSem nD τ sig → ℕ) : (bigSep (barCells ∪ ownCells) fun g => (cellInv ER (Rd A B) (K g) g : sProp 𝕄))
    ⊢ bigSep Finset.univ fun ck : Dev nD × Option OK => cellInv ER (Rd A B) (K (cel ck.1 ck.2)) (cel ck.1 ck.2) := by
  classical
  exact (bigSep_of_persistent (Finset.univ : Finset (Dev nD × Option OK)) _).trans (bigSep_mono fun ck _ => bigSep_elim (cel_mem ck.1 ck.2))

/-- The launch's step: from the barrier counters and the protocol's element to the invariants and each device's part. -/
theorem fund : iprop((bigSep Finset.univ fun c : Dev nD => semVal (cel c none) 0) ∗ BI.own (ER (launchOf barCells ownCells allToks)))
    ⊢ (|={Set.univ}=> ∃ K, invs A B K ∗ bigSep Finset.univ fun c : Dev nD => lin (F := F) c : sProp 𝕄) := by
  have hv : bigSep Finset.univ (fun c : Dev nD => (semVal (cel c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cel c none) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (cel c none) 0 : sProp 𝕄)) :=
    Entails.of_eq (bigSep_map (s := Finset.univ) barEmb (Φ := fun g : GSem nD τ sig => (reached ER g 0 : sProp 𝕄)))
  have hop : bigSep ownCells (fun g => (openTok ER g : sProp 𝕄)) ⊢ bigSep Finset.univ (fun c : Dev nD => opens (F := F) c) :=
    Entails.of_eq (by unfold ownCells opens; rw [bigSep_map, bigSep_univ_prod]; rfl)
  iintro ⟨Hv, Hu⟩
  imod (Rounds.fund_launch ER (Rd A B) cells_disjoint (fun g _ h => h) allToks) $$ [Hv Hu] with ⟨%K, -, #Hinv, #Hr, Hat, Hopen, Htok⟩
  · isplitl [Hv]
    · iapply hv $$ Hv
    · iexact Hu
  imodintro
  iexists K
  isplitr
  · unfold invs
    isplitr
    · iapply (invs_of A B K); iexact Hinv
    · iapply hr; iexact Hr
  unfold lin
  iapply (dealt _ _); isplitl [Hat]; · iapply hat $$ Hat
  iapply (dealt _ _); isplitl [Hopen]; · iapply hop $$ Hopen
  iapply (Entails.of_eq (toks_around (F := F))) $$ Htok

/-! ## The launch credit -/

/-- The cell a payment goes to: its name and its device. -/
def PK.nm : PK → Option OK
  | .bar _ => none
  | .tr k b => some (.rcv k b)
def PK.dst : PK → Dev nD → Dev nD
  | .bar d => dir d
  | .tr k _ => peer k

theorem PK.dst_dst (p : PK) (c : Dev nD) : p.dst (p.dst c) = c := by
  cases p with
  | bar d => exact dir_dir d c
  | tr k b => exact peer_peer k c
theorem PK.cell_eq (c : Dev nD) (p : PK) : p.cell c = cel (p.dst c) p.nm := by cases p <;> rfl
theorem PK.amt_eq (p : PK) : p.amt = TwoPhase.amt p.nm := by cases p <;> rfl

/-- What all devices together owe a cell: the payments of its name. -/
theorem due_sum (l : List PK) (c : Dev nD) (k : Option OK) :
    (∑ d : Dev nD, dueOf d l (cel c k) ()) = (l.countP fun p => decide (p.nm = k)) * amt k := by
  induction l with
  | nil => rw [List.countP_nil, Nat.zero_mul]; exact Finset.sum_eq_zero fun d _ => rfl
  | cons p l ih =>
    have h1 (d : Dev nD) : dueOf d (p :: l) (cel c k) () = dueOf d l (cel c k) () + if d = p.dst c then (if p.nm = k then amt k else 0) else 0 := by
      show (dueOf d l + tallyAt (p.cell d) () p.amt) (cel c k) () = _
      rw [Pi.add_apply, Finsupp.add_apply, tallyAt_apply, PK.cell_eq]
      congr 1
      by_cases hd : d = p.dst c
      · subst hd
        rw [if_pos rfl, PK.dst_dst]
        by_cases hk : p.nm = k
        · subst hk; rw [if_pos ⟨rfl, rfl⟩, if_pos rfl, PK.amt_eq]
        · rw [if_neg (fun h => hk (congrArg Prod.snd (cel_inj (a₁ := (c, k)) (a₂ := (c, p.nm)) h.1)).symm), if_neg hk]
      · rw [if_neg hd, if_neg]
        intro h
        have e : c = p.dst d := congrArg (fun t : Dev nD × Option OK => t.1) (cel_inj (a₁ := (c, k)) (a₂ := (p.dst d, p.nm)) h.1)
        exact hd (by rw [e]; exact (PK.dst_dst p d).symm)
    rw [Finset.sum_congr rfl fun d _ => h1 d, Finset.sum_add_distrib, ih, Finset.sum_ite_eq' Finset.univ (p.dst c) fun _ => if p.nm = k then amt k else 0,
      if_pos (Finset.mem_univ _), List.countP_cons, Nat.add_mul]
    by_cases hk : p.nm = k
    · simp [hk]
    · simp [hk]

/-- What device `c` owes at launch. -/
def O₀ (c : Dev nD) : CellTallies nD τ sig Unit := dueOf c dues0

theorem launch_cel (c : Dev nD) (k : Option OK) (n : ℕ) (hn : (dues0.countP fun p => decide (p.nm = k)) = n) :
    tallyOn (cel c k) (launchCredit (Pipeline.owing O₀) 0 (cel c k)) = (tallyAt (cel c k) () (n * amt k) : CellTallies nD τ sig Unit) := by
  unfold tallyAt; refine congrArg _ (Finsupp.ext fun u => ?_); cases u
  rw [← hn]
  exact (Pipeline.launchCredit_owing ..).trans ((due_sum dues0 c k).trans (Finsupp.single_eq_same).symm)

theorem count_bar : (dues0.countP fun p => decide (p.nm = none)) = 3 := by decide +kernel
theorem count_rcv (k : Kd) (b : Fin 4) : (dues0.countP fun p => decide (p.nm = some (.rcv k b))) = 1 := by revert k b; decide +kernel

def crEmb : Unit ⊕ (Kd × Fin 4) ↪ SemLoc sig := ⟨fun | .inl _ => csem none | .inr kb => csem (some (.rcv kb.1 kb.2)), by
  rintro (a | a) (b | b) h
  · rfl
  · exact absurd (csem_inj h) (by simp)
  · exact absurd (csem_inj h) (by simp)
  · have e := Option.some.inj (csem_inj h)
    have e2 : (true, a.1, a.2) = (true, b.1, b.2) := Sum.inr.inj e
    exact congrArg Sum.inr (congrArg Prod.snd e2)⟩

theorem creds (c : Dev nD) : (Pipeline.launchCred O₀ c : sProp 𝕄) ⊢ iprop(cred (tallyAt (cel c none) () 3) ∗ crs (F := F) c) := by
  classical
  have h : bigSep (Finset.univ.map crEmb) (fun sm : SemLoc sig => (cred (tallyOn ((c : Thread nD τ), sm) (launchCredit (Pipeline.owing O₀) 0 ((c : Thread nD τ), sm))) : sProp 𝕄))
      = iprop(cred (tallyAt (cel c none) () 3) ∗ crs (F := F) c) := by
    unfold crs
    rw [bigSep_map, bigSep_univ_sum, ← six_eq]
    congr 1
    · rw [show (Finset.univ : Finset Unit) = {()} from rfl, bigSep_singleton]
      exact congrArg (fun t => (cred t : sProp 𝕄)) (launch_cel c none 3 count_bar)
    · exact bigSep_congr fun kb _ => congrArg (fun t => (cred t : sProp 𝕄)) ((launch_cel c (some (.rcv kb.1 kb.2)) 1 (count_rcv kb.1 kb.2)).trans (by rw [Nat.one_mul]; rfl))
  rw [← h]
  unfold Pipeline.launchCred
  exact bigSep_subset (Finset.subset_univ _)

end Cert.TwoPhase

end
-- ==== Proof.Region.lean ====
/-
  The kernel's region: what the buffers hold before and after it, and the body's obligation.
-/
module

public import proofs.«01_k».proof.Proof.Deal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.RegionTalk
public import Idealize.ShloMosaic.Lib.Tactic

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers at each point of the program -/

/-- A whole buffer of device `c`. -/
abbrev pt (c : Dev nD) (b : Ref sig .tc) (f : Buf (Elt F) ((c : Thread nD τ).loc b)) : sProp 𝕄 := ((c : Thread nD τ).loc b) ↦{fullShare} f

theorem held_whole (c : Dev nD) (b : Ref sig .tc) (h : (Memref.whole b).IsWhole) (X : b.ty.shape.Idx → Elt F b.ty.elt) :
    held c (Memref.whole b) h fullShare Finset.univ X = pt c b X := by
  have e : h.unread (Val := Elt F) X = X := h.read_unread X
  unfold held
  rw [View.setOn_univ, View.set_whole, e]

abbrev bufs : Finset (DevRef τ sig) := (StableHlo.tcRefs τ sig).filter fun b => ¬ b.isScoped
/-- The result's. -/
abbrev arrs : Finset (DevRef τ sig) := Pipeline.arrRefs (τ := τ) spec0
/-- All but the result's. -/
abbrev bufs4 : Finset (DevRef τ sig) := {Proc.devRef .tc main_arg0, Proc.devRef .tc main_arg1, Proc.devRef .tc main_v1, Proc.devRef .tc main_v2}

/-- Device `c`'s buffers at launch, after the host operations, and at the end. -/
def V₀ (c : Dev nD) : Valuation τ sig (Elt F) := fun b => m (c, b)
def V₁ (c : Dev nD) : Valuation τ sig (Elt F) := StableHlo.after hostOps0 (V₀ m c)
/-- The kernel's operands, on every device. -/
def opA (c : Dev nD) : S4x512x512.Idx → Elt F .f32 := V₁ m c main_v2
def opB (c : Dev nD) : S512x1024.Idx → Elt F .f32 := V₁ m c main_arg1
/-- The result on device `c`. -/
def res (c : Dev nD) : S4x256x1024.Idx → Elt F .bf16 := OUT (opA m) (opB m) c
def V₂ (c : Dev nD) : Valuation τ sig (Elt F) := Function.update (V₁ m c) (Proc.devRef .tc main_v3) (res m c)

theorem bufs4_eq (c : Dev nD) (W : Valuation τ sig (Elt F)) : (StableHlo.held (c : Thread nD τ) bufs4 W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem arr_eq (c : Dev nD) (W : Valuation τ sig (Elt F)) :
    (StableHlo.held (c.tc : Thread nD τ) arrs W : sProp 𝕄) = pt c main_v3 (W main_v3) := by
  unfold StableHlo.held
  rw [show arrs = {Proc.devRef .tc main_v3} from by decide, bigSep_singleton]

theorem bufs_eq (c : Dev nD) (W : Valuation τ sig (Elt F)) : (StableHlo.held (c : Thread nD τ) bufs W : sProp 𝕄)
    = iprop(StableHlo.held (c.tc : Thread nD τ) arrs W ∗ StableHlo.held (c : Thread nD τ) bufs4 W) := by
  have hs : bufs \ arrs = bufs4 := by decide
  rw [StableHlo.held_sub_split (c : Thread nD τ) (show arrs ⊆ bufs from by decide) W, hs]

theorem V₂_v3 (c : Dev nD) : V₂ m c main_v3 = res m c := Function.update_self ..
theorem V₂_of (c : Dev nD) (b : DevRef τ sig) (h : b ≠ Proc.devRef .tc main_v3) : V₂ m c b = V₁ m c b := Function.update_of_ne h ..
theorem V₁_arg0 (c : Dev nD) : V₁ m c main_arg0 = m ((c : Thread nD τ).loc main_arg0) := by
  unfold V₁; after_results; rfl
theorem V₁_arg1 (c : Dev nD) : V₁ m c main_arg1 = m ((c : Thread nD τ).loc main_arg1) := by
  unfold V₁; after_results; rfl

/-- Any contents of a whole buffer, in either form. -/
theorem any_whole (c : Dev nD) (b : Ref sig .tc) (h : (Memref.whole b).IsWhole) :
    iprop(∃ f : Buf (Elt F) ((c : Thread nD τ).loc b), ((c : Thread nD τ).loc b) ↦{fullShare} f) = heldAny (F := F) c (Memref.whole b) h Finset.univ :=
  congrArg BIBase.«exists» (funext fun f => (held_whole c b h f).symm)
theorem sep_eq {P P' Q Q' : sProp 𝕄} (h : P = P') (h' : Q = Q') : iprop(P ∗ Q) = iprop(P' ∗ Q') := by rw [h, h']
/-- The scratch buffers, in either form. -/
theorem scr_eq (c : Dev nD) : (Pipeline.scopedRest (Ix := Unit) (Name := ℕ) (U := UU) (Lvl := ℕ) (Val := Elt F) spec0 c : sProp 𝕄) = scr (F := F) c := by
  rw [scopedRest0_eq]
  unfold scr
  exact sep_eq (any_whole c cc0_scratch0 _) (sep_eq (any_whole c cc0_scratch1 _) (sep_eq (any_whole c cc0_scratch2 _) (sep_eq (any_whole c cc0_scratch3 _)
    (sep_eq (any_whole c cc0_scratch4 _) (sep_eq (any_whole c cc0_scratch5 _) (sep_eq (any_whole c cc0_scratch6 _) (sep_eq (any_whole c cc0_scratch7 _)
      (any_whole c cc0_scratch8 _))))))))

/-! ## The region's record -/

/-- The cells' invariants, open to all. -/
def Xk (c : Dev nD) : sProp 𝕄 :=
  iprop((∃ K, recs (opA m) (opB m) K) ∗ (ats (F := F) c 0 ∗ rchs (F := F) c ∗ toks (F := F) c ∗ crs (F := F) c) ∗ bars (F := F) c)
/-- What the launch keeps for the region. -/
def Tk (c : Dev nD) : sProp 𝕄 := iprop((∃ K, invs (opA m) (opB m) K) ∗ lin (F := F) c ∗ cred (tallyAt (cel c none) () 3) ∗ crs (F := F) c)
/-- The buffers the body addresses itself and that no window stages. -/
def rest (c : Dev nD) : sProp 𝕄 :=
  iprop((pt c main_arg0 (V₁ m c main_arg0) ∗ pt c main_v1 (V₁ m c main_v1)) ∗ args (opA m) (opB m) c ∗ scr (F := F) c ∗ ∃ r, prngReg c r)

def dat0 (c : Dev nD) : Pipeline.Dat τ (Elt F) Unit ℕ UU ℕ cfg0 c where
  A := fun | ⟨0, _⟩ => V₁ m c main_v3
  after := fun | ⟨0, _⟩ => fun _ => res m c
  Φ t := if t.val = 0 then iprop(Xk m c ∗ rest m c) else iprop((zeros (F := F) c ∗ semVal (cel c none) 0) ∗ rest m c)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun | ⟨0, _⟩ => dat0 m

theorem owed_first (c : Dev nD) : (dat0 m c).owed t0_0.castSucc = dueOf c dues0 := by
  show (if (t0_0.castSucc : Fin (cfg0.N + 1)).val = 0 then O₀ c else 0) = _; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro {cfg : Pipeline.Cfg sig Λ₀} {c : Dev nD} (dat : Pipeline.Dat τ (Elt F) Unit ℕ UU ℕ cfg c) (t : Fin (cfg.N + 1))
    (O : CellTallies nD τ sig Unit) (h0 : dat.owed t = O) (W : Waits sig Unit) (hr : dat.recorded t = Set.univ := by first | rfl | skip) :
    (owes (c : Thread nD τ) O W : sProp 𝕄) ⊢ (dat.owesAt () t : sProp 𝕄) := by
  unfold Pipeline.Dat.owesAt Pipeline.owesWithin Pipeline.Dat.bound; rw [h0, hr]
  iintro HO; iexists W; isplitr; · ipureintro; exact fun _ _ => Or.inl trivial
  iexact HO
theorem owesAt_elim {cfg : Pipeline.Cfg sig Λ₀} {c : Dev nD} (dat : Pipeline.Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Pipeline.Dat.owesAt Pipeline.owesWithin; rw [h0]
  iintro ⟨%W, -, HO⟩; iexists W; iexact HO

/-- What the region calls is the body at the device it reads. -/
theorem call_eq : (defs₀ (F := F)) .tc cfg0.body (cfg0.bodyArgs t0_0 (cfg0.slots t0_0)) = .op .deviceId (fun c => prog c) := by
  show bodyAt0 t0_0 = _
  unfold bodyAt0
  rw [cc0_body_eq_skeleton]
  exact body_eq

theorem owns_out (c : Dev nD) (X : S4x256x1024.Idx → Elt F .bf16) :
    (owns (c : Thread nD τ) (stage0_0 0) fullShare X : sProp 𝕄) = held c outM (hstage0_0 0) fullShare Finset.univ X := by
  refine eqv ⟨?_, ?_⟩
  · unfold owns
    iintro ⟨%f, %hf, H⟩
    iapply (Entails.of_eq (held_of (h := hstage0_0 0) (R := Finset.univ) (q := fullShare) (X := X) (f := f) (fun x _ => congrFun hf x)))
    iexact H
  · unfold owns held
    iintro H
    iexists _
    isplitr
    · ipureintro; exact (hstage0_0 0).read_unread X
    · iexact H

/-- The body, at any device. -/
theorem body0 (c : Dev nD) : Pipeline.BodyObligation (dat0 m c) (defs₀ (F := F)) 𝒱₀ () Set.univ := fun t => by
  obtain rfl := fin_N0 t
  rw [bigSep_W0, bigSep_W0, call_eq]
  rw [show (dat0 m c).Φ t0_0.castSucc = iprop(Xk m c ∗ rest m c) from rfl,
    show (dat0 m c).Φ t0_0.succ = iprop((zeros (F := F) c ∗ semVal (cel c none) 0) ∗ rest m c) from rfl]
  unfold rest Xk
  iintro ⟨⟨⟨⟨%K, #HR⟩, Hown, Hbars⟩, Hhost, Hargs, Hscr, Hreg⟩, HO, Hout⟩
  ihave HO := (owesAt_elim (dat0 m c) _ _ (owed_first m c)) $$ HO
  icases Hout with ⟨%d, Hout⟩
  ihave Hout := (Entails.of_eq (owns_out (F := F) c _)) $$ Hout
  ihave Hout := held_any $$ Hout
  simp only [wp_deviceId]
  iapply (run_prog (opA m) (opB m) (K := K) c (Q := _)) $$ [Hargs Hout Hscr Hown Hbars HO]
  · isplitr; · iexact HR
    isplitl [Hargs Hout Hscr]
    · isplitl [Hargs]; · iexact Hargs
      isplitl [Hout]; · iexact Hout
      iexact Hscr
    isplitl [Hown]; · iexact Hown
    isplitl [Hbars]; · iexact Hbars
    unfold ow; iexact HO
  iintro ⟨⟨Hargs, Hout, Hscr⟩, Hats, Hbar, HO⟩
  unfold wpD
  rw [wp_ret]
  imod (close_all (opA m) (opB m) (K := K) c) $$ [Hats] with Hz
  · isplitr; · iexact HR
    iexact Hats
  imod (close_one (opA m) (opB m) (K := K) c none) $$ [Hbar] with Hb
  · isplitr; · iexact HR
    iexact Hbar
  imodintro
  isplitl [Hz Hb Hhost Hargs Hscr Hreg]
  · isplitl [Hz Hb]
    · isplitl [Hz]; · iexact Hz
      iexact Hb
    isplitl [Hhost]; · iexact Hhost
    isplitl [Hargs]; · iexact Hargs
    isplitl [Hscr]; · iexact Hscr
    iexact Hreg
  isplitl [HO]
  · unfold ow
    icases HO with ⟨%W, HO⟩
    iapply (owesAt_intro (dat0 m c) t0_0.succ 0 (owed_last m c) W); iexact HO
  iapply (Entails.of_eq (owns_out (F := F) c _).symm)
  iexact Hout

end Cert.TwoPhase

end
-- ==== Proof.Run.lean ====
/-
  The run of the whole program: the launch, the host's segment, the region, and what every device's buffers hold at the end.
-/
module

public import proofs.«01_k».proof.Proof.Region

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (cel c none) 0 := by
  unfold unscopedSems0
  rw [show (Finset.univ.filter fun sm : SemLoc sig => ¬ sm.isScoped .tc) = {csem none} from by decide +kernel, BI.bigSep_singleton]
  rfl

/-! ## The region -/

theorem hopen (c : Dev nD) : iprop(Tk m c ∗ Pipeline.ownSems0 osem c ∗ levAts L lv) ⊢ (|={Set.univ}=> Xk m c : sProp 𝕄) := by
  unfold Tk Xk
  rw [show (Pipeline.ownSems0 osem c : sProp 𝕄) = zeros (F := F) c from rfl]
  iintro ⟨⟨⟨%K, #HI⟩, Hlin, H3, Hcrs⟩, Hz, #Hlev⟩
  ihave #HR := (show iprop(invs (opA m) (opB m) K ∗ levAts L lv) ⊢ recs (opA m) (opB m) K from by
    unfold invs recs
    iintro ⟨⟨#H1, #H2⟩, #H3⟩
    isplitr; · iexact H1
    isplitr; · iexact H2
    iexact H3) $$ []
  · isplitr; · iexact HI
    iexact Hlev
  unfold lin
  icases Hlin with ⟨Hat, Ho, Hann, Htok⟩
  imod (open_all (opA m) (opB m) (K := K) c) $$ [Ho Hz] with ⟨Hats, Hr⟩
  · isplitr; · iexact HR
    isplitl [Ho]; · iexact Ho
    iexact Hz
  imodintro
  isplitr; · iexists K; iexact HR
  isplitl [Hats Hr Htok Hcrs]
  · isplitl [Hats]; · iexact Hats
    isplitl [Hr]; · iexact Hr
    isplitl [Htok]; · iexact Htok
    iexact Hcrs
  unfold bars annToks
  isplitl [Hann]; · iexact Hann
  isplitl [Hat]; · iexact Hat
  iexact H3

theorem bufs4_held (c : Dev nD) (W : Valuation τ sig (Elt F)) (h0 : W main_arg0 = V₁ m c main_arg0) (h1 : W main_arg1 = V₁ m c main_arg1)
    (h2 : W main_v1 = V₁ m c main_v1) (h3 : W main_v2 = V₁ m c main_v2) : (StableHlo.held (c : Thread nD τ) bufs4 W : sProp 𝕄)
    ⊣⊢ iprop((pt c main_arg0 (V₁ m c main_arg0) ∗ pt c main_v1 (V₁ m c main_v1)) ∗ args (opA m) (opB m) c) := by
  rw [bufs4_eq, h0, h1, h2, h3]
  unfold args
  rw [show (held c aM (Memref.isWhole_whole _) fullShare Finset.univ (opA m c) : sProp 𝕄) = pt c main_v2 (V₁ m c main_v2) from held_whole c main_v2 _ _,
    show (held c bM (Memref.isWhole_whole _) fullShare Finset.univ (opB m c) : sProp 𝕄) = pt c main_arg1 (V₁ m c main_arg1) from held_whole c main_arg1 _ _]
  constructor
  · iintro ⟨H0, H1, H2, H3⟩
    isplitl [H0 H2]
    · isplitl [H0]; · iexact H0
      iexact H2
    isplitl [H3]; · iexact H3
    iexact H1
  · iintro ⟨⟨H0, H2⟩, H3, H1⟩
    isplitl [H0]; · iexact H0
    isplitl [H1]; · iexact H1
    isplitl [H2]; · iexact H2
    iexact H3

theorem hin (c : Dev nD) : iprop(Pipeline.scopedRest (Pipeline.pin (pcfgs (F := F)) adm 0).spec c ∗ (∃ r, prngReg c r) ∗ StableHlo.held (c.tc : Thread nD τ) bufs4 (V₁ m c) ∗ Xk m c)
    ⊢ (pdats m 0 c).Φ 0 := by
  rw [show (pdats m 0 c).Φ 0 = iprop(Xk m c ∗ rest m c) from rfl,
    show (Pipeline.scopedRest (Pipeline.pin (pcfgs (F := F)) adm 0).spec c : sProp 𝕄) = scr (F := F) c from scr_eq c]
  unfold rest
  iintro ⟨Hs, Hp, Hh, HX⟩
  ihave Hh := (bufs4_held m c (V₁ m c) rfl rfl rfl rfl).1 $$ Hh
  icases Hh with ⟨Hh, Ha⟩
  isplitl [HX]; · iexact HX
  isplitl [Hh]; · iexact Hh
  isplitl [Ha]; · iexact Ha
  isplitl [Hs]; · iexact Hs
  iexact Hp

def Yk (c : Dev nD) : sProp 𝕄 := semVal (cel c none) 0

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs4 (V₂ m c) ∗ Pipeline.ownSems0 osem c ∗ Yk c) := by
  rw [show (pdats m 0 c).Φ (Fin.last _) = iprop((zeros (F := F) c ∗ semVal (cel c none) 0) ∗ rest m c) from rfl,
    show (Pipeline.scopedRest (Pipeline.pin (pcfgs (F := F)) adm 0).spec c : sProp 𝕄) = scr (F := F) c from scr_eq c,
    show (Pipeline.ownSems0 osem c : sProp 𝕄) = zeros (F := F) c from rfl]
  unfold rest Yk
  iintro ⟨⟨Hz, Hb⟩, Hh, Ha, Hs, Hp⟩
  isplitl [Hs]; · iexact Hs
  isplitl [Hp]; · iexact Hp
  isplitl [Hh Ha]
  · iapply (bufs4_held m c (V₂ m c) (V₂_of m c _ (by decide)) (V₂_of m c _ (by decide)) (V₂_of m c _ (by decide)) (V₂_of m c _ (by decide))).2
    isplitl [Hh]; · iexact Hh
    iexact Ha
  isplitl [Hz]; · iexact Hz
  iexact Hb

theorem stage_free : ∀ (w : Fin 1) (s : Fin (spec0 w).nbuf) (k : Option OK), csem k ≠ .dma ((spec0 w).sem s) := by decide +kernel

theorem lv_stage (c : Dev nD) (w : Fin 1) (s : Fin (spec0 w).nbuf) : lv ((c : Thread nD τ), .dma ((spec0 w).sem s)) () = 0 := by
  have h : dec (.dma ((spec0 w).sem s)) = none := by
    unfold dec; exact dif_neg fun ⟨k, hk⟩ => stage_free w s k hk
  unfold lv; rw [h]

theorem lv_pos (p : PK) : 0 < p.lv := by
  cases p with
  | bar d => exact Nat.one_pos
  | tr k b => show 0 < k.lv; unfold Kd.lv; split <;> decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨p, -, rfl⟩ := dueOf_pos h
    exact ⟨cell_mem_L c p i, by rw [lv_cell]; exact lv_pos p⟩
  · exact absurd h (Nat.lt_irrefl 0)

/-- The result's array after the region. -/
theorem result (c : Dev nD) : (pdats (F := F) m 0 c).arrAt (0 : Fin 1) (Pipeline.pin (pcfgs (F := F)) adm 0).N = V₂ m c main_v3 := by
  rw [V₂_v3]
  refine (dat0 m c).arrAt_eq_of_cover (0 : Fin 1) (res m c) (fun t _ => ?_) (fun i => ⟨t0_0, flush0_0 _, ?_⟩)
  · obtain rfl := fin_N0 t
    exact (Memref.read_access_unit_zero (Elt F) main_v3 (funext fun a => by fin_cases a <;> rfl) _ (res m c)).symm
  · refine Finset.mem_map.mpr ⟨i, Finset.mem_univ _, funext fun a => Fin.ext ?_⟩
    fin_cases a
    · show 0 * 4 + 1 * (i 0).val = (i 0).val; omega
    · show 0 * 256 + 1 * (i 1).val = (i 1).val; omega
    · show 0 * 1024 + 1 * (i 2).val = (i 2).val; omega

set_option backward.isDefEq.respectTransparency.types false in
def reg : ℝ𝕊 0 :=
  Pipeline.RegionSeg.ofTalk (pcfgs (F := F)) adm (pdats m) () defs₀ 𝒱₀ L lv 0 osem osem_facts
    bufs4 bufs4 (Finset.Subset.refl _) launch0.toP rfl (fun c => (body0 m c).loose)
    (fun _ => 0) O₀ (fun c => (owed_zero m c).trans (zero_add _).symm) (owed_last m) (fun _ => rfl) (fun _ w => match w with | ⟨0, _⟩ => rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => (lv_stage c w s).le, fun c t g i h => cutD m c t g i h⟩
    (fun _ => iprop(emp))
    (fun c w => match w with | ⟨0, _⟩ => rfl)
    (fun c w => match w with | ⟨0, _⟩ => result m c)

/-! ## The launch -/

/-- What rides beside the buffers up to the region. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := by
  intro op h
  rcases List.mem_cons.mp h with rfl | h
  · show ({Proc.devRef .tc main_arg0, Proc.devRef .tc main_v1} : Finset (DevRef τ sig)) ⊆ bufs; decide
  · rcases List.mem_cons.mp h with rfl | h
    · show ({Proc.devRef .tc main_v1, Proc.devRef .tc main_v2} : Finset (DevRef τ sig)) ⊆ bufs; decide
    · exact absurd h List.not_mem_nil
theorem ops_fresh : ∀ op ∈ (hostOps0 : List (HloOp τ sig (Elt F))), op.fresh = ∅ := by
  intro op h
  rcases List.mem_cons.mp h with rfl | h
  · rfl
  · rcases List.mem_cons.mp h with rfl | h
    · rfl
    · exact absurd h List.not_mem_nil

def seg0 : ℍ := Pipeline.HostSeg.ofOps _ _ _ _ _ bufs hostOps0 ops_sub ops_fresh (V₀ m) (R m)
def segs : List (Pipeline.Seg (pcfgs (F := F)) adm (pdats m) () defs₀ 𝒱₀ L lv) := [.host (seg0 m), .region (reg m)]

theorem reg_pre (c : Dev nD) : iprop(StableHlo.held (c : Thread nD τ) bufs (V₁ m c) ∗ R m c) ⊢ (reg m).pre c := by
  show _ ⊢ iprop(StableHlo.held (c.tc : Thread nD τ) arrs (V₁ m c) ∗ (∃ r, prngReg c r)
    ∗ (StableHlo.held (c.tc : Thread nD τ) bufs4 (V₁ m c) ∗ emp) ∗ Tk m c ∗ ∃ Wd, owes (c : Thread nD τ) (0 + O₀ c) Wd)
  rw [bufs_eq, zero_add]
  unfold R
  iintro ⟨⟨H3, Hh⟩, HT, Hp, HO⟩
  isplitl [H3]; · iexact H3
  isplitl [Hp]; · iexact Hp
  isplitl [Hh]
  · isplitl [Hh]; · iexact Hh
    iempintro
  isplitl [HT]; · iexact HT
  iexact HO

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (cel c none) 0)

theorem reg_post (c : Dev nD) : (reg m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) bufs4 (V₂ m c) ∗ emp) ∗ Yk c ∗ ∃ Wd, owes (c : Thread nD τ) (0 : CellTallies nD τ sig Unit) Wd) ⊢ _
  dsimp only [Tₙ]
  rw [bufs_eq]
  unfold Yk
  iintro ⟨H3, -, ⟨Hh, -⟩, Hb, HO⟩
  isplitr [HO]
  · isplitl [H3 Hh]
    · isplitl [H3]; · iexact H3
      iexact Hh
    iexact Hb
  iexact HO

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- All of a resource on device 0. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells ownCells allToks)))

/-- What of a device's launch holdings is no part of the cells. -/
def bundle (c : Dev nD) : sProp 𝕄 :=
  iprop(StableHlo.held (c : Thread nD τ) bufs (V₀ m c) ∗ (cred (tallyAt (cel c none) () 3) ∗ crs (F := F) c) ∗ owes (c : Thread nD τ) (O₀ c) ∅ ∗ ∃ r, prngReg c r)

theorem T₀_intro (K : GSem nD τ sig → ℕ) (c : Dev nD) : iprop(invs (opA m) (opB m) K ∗ (lin (F := F) c ∗ bundle m c)) ⊢ T₀ m c := by
  unfold bundle T₀ R Tk
  iintro ⟨#HI, Hl, Hh, ⟨H3, Hc⟩, HO, Hp⟩
  isplitl [Hh]; · iexact Hh
  isplitl [Hl H3 Hc]
  · isplitr; · iexists K; iexact HI
    isplitl [Hl]; · iexact Hl
    isplitl [H3]; · iexact H3
    iexact Hc
  isplitl [Hp]; · iexact Hp
  iexists ∅; iexact HO

theorem undealt (P Q : Dev nD → sProp 𝕄) : (bigSep Finset.univ fun c => iprop(P c ∗ Q c)) ⊢ iprop(bigSep Finset.univ P ∗ bigSep Finset.univ Q) :=
  Entails.of_eq (bigSep_sep' ..)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cel c none) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cel c none) 0 ∗ G c)) : sProp 𝕄) from bigSep_mono fun c _ => hone c) $$ H
  ihave H := (undealt _ _) $$ H
  icases H with ⟨HB, H⟩
  ihave H := (undealt _ _) $$ H
  icases H with ⟨Hv, HG⟩
  unfold G
  ihave HG := (Entails.of_eq (bigSep_onFirst (F := F) (BI.own (ER (launchOf barCells ownCells allToks))))) $$ HG
  imod (fund (opA m) (opB m)) $$ [Hv HG] with ⟨%K, #HI, Hl⟩
  · isplitl [Hv]; · iexact Hv
    iexact HG
  imodintro
  iapply (bigSep_with_persistent (R := invs (opA m) (opB m) K) (Φ := fun c => iprop(lin (F := F) c ∗ bundle m c)) fun c _ => T₀_intro m K c)
  isplitr; · iexact HI
  iapply (dealt _ _)
  isplitl [Hl]; · iexact Hl
  iexact HB

theorem unscoped_eq : ∀ sm : SemLoc sig, sm.isScoped .tc = false → sm = csem none := by decide +kernel

set_option backward.isDefEq.respectTransparency.types false in
/-- The run, at any float values: from any memory with every counter at zero, every fair execution on the sixteen devices ends, each device's
    arguments as they were, its result `res`, and every counter at zero. -/
theorem run_main : θ_run defs (onTc (τ := τ) (main (F := F))) (s₀ m ρ)
    (fun r => (∀ c : Dev nD, (r.2.mem ((c : Thread nD τ).loc main_v3) = res m c
        ∧ r.2.mem ((c : Thread nD τ).loc main_arg0) = m ((c : Thread nD τ).loc main_arg0))
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := ⟨fun c => .rfl, fun c => reg_pre m c, fun c => reg_post m c⟩)
    (hinit := init m ρ)
    (QY := fun c s => ((s.mem ((c : Thread nD τ).loc main_v3) = res m c ∧ s.mem ((c : Thread nD τ).loc main_arg0) = V₁ m c main_arg0)
      ∧ s.mem ((c : Thread nD τ).loc main_arg1) = V₁ m c main_arg1) ∧ s.sem (cel c none) = 0)
    (hfin := fun c s' => by
      dsimp only [Tₙ]
      rw [bufs_eq, arr_eq, bufs4_eq, V₂_v3, V₂_of m c (Proc.devRef .tc main_arg0) (by decide), V₂_of m c (Proc.devRef .tc main_arg1) (by decide)]
      iintro ⟨⟨⟨H3, H0, H1, -⟩, Hb0⟩, HSI⟩
      icombine HSI H3 gives %h3
      icombine HSI H0 gives %h0
      icombine HSI H1 gives %h1
      icombine HSI Hb0 gives %hb
      imodintro
      isplitr
      · ipureintro
        exact ⟨⟨⟨Buf.eq_of_forall_mem_univ h3, Buf.eq_of_forall_mem_univ h0⟩, Buf.eq_of_forall_mem_univ h1⟩, by simpa using hb⟩
      iexact HSI)
    (hQ := fun s h hs => ⟨fun c => by
        obtain ⟨⟨⟨h3, h0⟩, h1⟩, -⟩ := h c
        rw [V₁_arg0] at h0; rw [V₁_arg1] at h1
        exact ⟨⟨h3, h0⟩, h1⟩,
      sem_eq_zero hs fun c sm hsm => by
        obtain rfl := unscoped_eq sm hsm
        exact (h c).2⟩)

end Cert.TwoPhase

end
-- ==== Proof.Value.lean ====
/-
  The result over the extended reals: each device's block of the whole product, from the two halves of the contraction.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payloads at an index -/

theorem pay2_at (v : Vec Ideal S1x512x128 .f32) (w : Vec Ideal S512x512 .f32) (j : S1x128x512.Idx) :
    k0_pay2 v w j = ∑ k : Fin 512, v (ix3 0 k (j 1)) * w (ix2 k (j 2)) := by
  pointwise [k0_pay2]

theorem pay11_at (v : Vec Ideal S1x512x128 .f32) (w : Vec Ideal S512x1024 .f32) (j : S1x128x1024.Idx) :
    k0_pay11 v w j = ∑ k : Fin 512, v (ix3 0 k (j 1)) * w (ix2 k (j 2)) := by
  pointwise [k0_pay11]

theorem pay16_at (v : Vec Ideal S1x64x1024 .f32) (w : Vec Ideal S1x64x1024 .bf16) (j : S1x64x1024.Idx) :
    k0_pay16 v w j = (v j + w j : EReal) := by
  pointwise [k0_pay16]

/-! ## Both halves of the contraction -/

/-- Two indices of rank 3 with the same coordinates are the same. -/
theorem ext3 {d : Fin 3 → ℕ} {i j : (⟨3, d⟩ : Shape).Idx} (h0 : (i 0).val = (j 0).val) (h1 : (i 1).val = (j 1).val)
    (h2 : (i 2).val = (j 2).val) : i = j := funext fun
  | ⟨0, _⟩ => Fin.ext h0
  | ⟨1, _⟩ => Fin.ext h1
  | ⟨2, _⟩ => Fin.ext h2
/-- Two indices of rank 2 with the same coordinates are the same. -/
theorem ext2 {d : Fin 2 → ℕ} {i j : (⟨2, d⟩ : Shape).Idx} (h0 : (i 0).val = (j 0).val) (h1 : (i 1).val = (j 1).val) :
    i = j := funext fun
  | ⟨0, _⟩ => Fin.ext h0
  | ⟨1, _⟩ => Fin.ext h1

theorem half_bound (c : Dev nD) (k : ℕ) (h : k < 512) : 512 * (c.val / 8) + k < 1024 := by have := lt16 c; omega

/-- The whole left operand with heads and depth joined, and the whole right operand. -/
abbrev Lhs : Type := (⟨3, ![4, 512, 1024]⟩ : Shape).Idx → EReal
abbrev Rhs : Type := (⟨2, ![1024, 1024]⟩ : Shape).Idx → EReal

variable (O : Lhs) (W : Rhs)

/-- One term of the contraction. -/
def term (b : Fin 4) (r : Fin 512) (n : Fin 1024) (K : Fin 1024) : EReal := O (ix3 b r K) * W (ix2 K n)
/-- The terms whose contracted index device `c` holds, summed. -/
def half (c : Dev nD) (b : Fin 4) (r : Fin 512) (n : Fin 1024) : EReal :=
  ∑ k : Fin 512, term O W b r n ⟨512 * (c.val / 8) + k.val, half_bound c k.val k.isLt⟩
/-- The whole contraction. -/
def whole (b : Fin 4) (r : Fin 512) (n : Fin 1024) : EReal := ∑ K : Fin 1024, term O W b r n K

theorem xp_div (c : Dev nD) : (xp c).val / 8 = 1 - c.val / 8 := by revert c; decide +kernel
theorem xp_q (c : Dev nD) : qPeer (xp c) = qOwn c := by revert c; decide +kernel
theorem xp_half (c : Dev nD) : rHalf (xp c) = rHalf c := by revert c; decide +kernel

/-- A device's terms and its first axis' neighbour's are all of them. -/
theorem half_add (c : Dev nD) (b : Fin 4) (r : Fin 512) (n : Fin 1024) :
    half O W c b r n + half O W (xp c) b r n = whole O W b r n := by
  have hs : whole O W b r n = (∑ k : Fin 512, term O W b r n ⟨k.val, by omega⟩) + ∑ k : Fin 512, term O W b r n ⟨512 + k.val, by omega⟩ :=
    Fin.sum_univ_add (a := 512) (b := 512) (fun K : Fin (512 + 512) => term O W b r n K)
  have hx := xp_div c
  have hc := lt16 c
  rw [hs]
  rcases (by omega : c.val / 8 = 0 ∨ c.val / 8 = 1) with h | h
  · refine congr (congrArg _ ?_) ?_ <;> refine Finset.sum_congr rfl fun k _ => congrArg _ (Fin.ext ?_) <;> dsimp only <;> omega
  · rw [add_comm]
    refine congr (congrArg _ ?_) ?_ <;> refine Finset.sum_congr rfl fun k _ => congrArg _ (Fin.ext ?_) <;> dsimp only <;> omega

variable (A : Dev nD → S4x512x512.Idx → Elt Ideal .f32) (B : Dev nD → S512x1024.Idx → Elt Ideal .f32)

/-- Each device's operands are its part of the whole ones. -/
structure Parts : Prop where
  hA : ∀ (c : Dev nD) (j : S4x512x512.Idx), A c j = O (ix3 (j 0) (j 2) ⟨512 * (c.val / 8) + (j 1).val, half_bound c _ (j 1).isLt⟩)
  hB : ∀ (c : Dev nD) (j : S512x1024.Idx), B c j = W (ix2 ⟨512 * (c.val / 8) + (j 0).val, half_bound c _ (j 0).isLt⟩ (j 1))

variable {O W A B}

/-- A coordinate of a point of a box with unit steps. -/
theorem emb_at {s : Shape} (off size : Fin s.rank → ℕ) (h : ∀ a, off a + size a ≤ s.size a) (x : (Rect.unit (s := s) off size h).shape.Idx)
    (a : Fin s.rank) : ((Rect.unit (s := s) off size h).emb x a).val = off a + (x a).val := by
  show off a + 1 * (x a).val = _
  rw [Nat.one_mul]

/-- The kept product is the device's half of the contraction at its own rows. -/
theorem RE_at (h : Parts O W A B) (c : Dev nD) (i : S4x128x1024.Idx) (r : Fin 512) (hr : r.val = qOwn c + (i 1).val) :
    RE A B c i = half O W c (i 0) r (i 2) := by
  unfold RE prodRe
  rw [pay11_at]
  refine Finset.sum_congr rfl fun k _ => ?_
  rw [h.hA, h.hB]
  refine congr (congrArg _ (congrArg O (ext3 ?_ ?_ ?_))) (congrArg W (ext2 ?_ ?_))
  · exact (emb_at _ _ _ _ 0).trans (Nat.add_zero _)
  · exact (emb_at _ _ _ _ 2).trans hr.symm
  · exact congrArg (512 * (c.val / 8) + ·) ((emb_at _ _ _ _ 1).trans (Nat.zero_add _))
  · exact congrArg (512 * (c.val / 8) + ·) ((emb_at _ _ _ _ 0).trans (Nat.zero_add _))
  · exact (emb_at _ _ _ _ 1).trans (Nat.zero_add _)

/-- The outgoing product is the device's half of the contraction at its neighbour's rows. -/
theorem SX_at (h : Parts O W A B) (c : Dev nD) (i : S4x128x1024.Idx) (r : Fin 512) (hr : r.val = qPeer c + (i 1).val) :
    SX A B c i = half O W c (i 0) r (i 2) := by
  unfold SX prodX
  rw [pay2_at]
  refine Finset.sum_congr rfl fun k _ => ?_
  rw [h.hA, h.hB]
  refine congr (congrArg _ (congrArg O (ext3 ?_ ?_ ?_))) (congrArg W (ext2 ?_ ?_))
  · exact (emb_at _ _ _ _ 0).trans (Nat.add_zero _)
  · exact (emb_at _ _ _ _ 2).trans hr.symm
  · exact congrArg (512 * (c.val / 8) + ·) ((emb_at _ _ _ _ 1).trans (Nat.zero_add _))
  · exact congrArg (512 * (c.val / 8) + ·) ((emb_at _ _ _ _ 0).trans (Nat.zero_add _))
  · refine (emb_at _ _ _ _ 1).trans ?_
    show 512 * ((i 2).val / 512) + (i 2).val % 512 = (i 2).val
    omega

/-- The device's own rows of the result are the whole contraction. -/
theorem MI_at (h : Parts O W A B) (c : Dev nD) (i : S4x64x1024.Idx) (r : Fin 512) (hr : r.val = qOwn c + rHalf c + (i 1).val) :
    MI A B c i = whole O W (i 0) r (i 2) := by
  unfold MI mine
  rw [pay16_at, RE_at h c _ r ?_]
  · unfold RX
    rw [SX_at h (xp c) _ r ?_]
    · refine Eq.trans ?_ (half_add O W c (i 0) r (i 2))
      refine congr (congrArg _ ?_) ?_
      · refine congr (congr (congrArg (fun b => half O W c b) ?_) rfl) ?_
        · exact Fin.ext ((emb_at _ _ _ _ 0).trans (Nat.add_zero _))
        · exact Fin.ext ((emb_at _ _ _ _ 2).trans (Nat.zero_add _))
      · refine congr (congr (congrArg (fun b => half O W (xp c) b) ?_) rfl) ?_
        · exact Fin.ext ((emb_at _ _ _ _ 0).trans (Nat.add_zero _))
        · exact Fin.ext ((emb_at _ _ _ _ 2).trans (Nat.zero_add _))
    · rw [xp_q, hr, Nat.add_assoc]
      refine congrArg (qOwn c + ·) ?_
      show _ = rHalf (xp c) + _
      rw [xp_half]
      exact congrArg (rHalf c + ·) ((emb_at _ _ _ _ 1).trans (Nat.zero_add _)).symm
  · rw [hr, Nat.add_assoc]
    show qOwn c + (rHalf c + (i 1).val) = qOwn c + (rHalf c + 1 * (i 1).val)
    omega

/-- The owner of a row has it among its own rows. -/
theorem own_row (c : Dev nD) (q : Fin 4) : qOwn (own c (64 * q.val)) + rHalf (own c (64 * q.val)) = 256 * (c.val / 8) + 64 * q.val := by
  revert c q; decide +kernel
theorem own_div (c : Dev nD) (r : ℕ) : own c r = own c (64 * (r / 64)) := by
  unfold own
  rw [show 64 * (r / 64) / 128 = r / 128 by omega, show 64 * (r / 64) % 128 / 64 = r % 128 / 64 by omega]

theorem row_bound (c : Dev nD) (k : ℕ) (h : k < 256) : 256 * (c.val / 8) + k < 512 := by have := lt16 c; omega

/-- Device `c`'s result is the whole contraction at its block of the rows. -/
theorem OUT_at (h : Parts O W A B) (c : Dev nD) (i : S4x256x1024.Idx) :
    OUT A B c i = whole O W (i 0) ⟨256 * (c.val / 8) + (i 1).val, row_bound c _ (i 1).isLt⟩ (i 2) := by
  have hi : (i 1).val < 256 := (i 1).isLt
  have ho := own_row c ⟨(i 1).val / 64, by omega⟩
  unfold OUT
  rw [MI_at h _ _ ⟨256 * (c.val / 8) + (i 1).val, row_bound c _ hi⟩ ?_]
  · rfl
  · show 256 * (c.val / 8) + (i 1).val = qOwn (own c (i 1).val) + rHalf (own c (i 1).val) + (i 1).val % 64
    rw [own_div c (i 1).val]
    dsimp only at ho
    omega

/-! ## The reference, and each device's part of it -/

/-- The reference's value at an index. -/
theorem ref_at (O : FVec Ideal Cert.ReferenceIdeal.S4x512x16x64 .f32) (W : FVec Ideal Cert.ReferenceIdeal.S1024x1024 .f32) (i : Cert.ReferenceIdeal.S4x512x1024.Idx) :
    (truncf .bf16 (Host.dotGeneral Cert.ReferenceIdeal.dot_S4x512x1024_S1024x1024_S4x512x1024_2_0_01_1_n_n none
      (shapeCast _ O Cert.ReferenceIdeal.Gen.shapeCasts_S4x512x16x64_S4x512x1024) W) Cert.ReferenceIdeal.Gen.bitsLt_bf16_f32 : FVec Ideal _ .bf16) i
      = whole (shapeCast _ O Cert.ReferenceIdeal.Gen.shapeCasts_S4x512x16x64_S4x512x1024) W (i 0) (i 1) (i 2) := by
  unfold whole term
  pointwise

variable (m : (ℓ : Loc nD τ sig) → Buf (Elt Ideal) ℓ)

/-- The left operand the kernel reads: heads and depth joined, then the last two axes exchanged. -/
theorem opA_eq (c : Dev nD) :
    opA m c = transpose S4x512x512 [0, 2, 1] (shapeCast S4x512x512 (m ((c : Thread nD τ).loc main_arg0)) shapeCasts_S4x512x8x64_S4x512x512) transposes_S4x512x512_S4x512x512_0_2_1 := by
  unfold opA V₁; after_results; rfl

theorem depth_bound (q : ℕ) (h : q < 512) : q / 64 < 8 := by omega

/-- It at an index. -/
theorem opA_at (c : Dev nD) (j : S4x512x512.Idx) :
    opA m c j = m ((c : Thread nD τ).loc main_arg0) (ix4 (j 0) (j 2) ⟨(j 1).val / 64, depth_bound _ (j 1).isLt⟩ ⟨(j 1).val % 64, Nat.mod_lt _ (by decide)⟩) := by
  refine (congrFun (opA_eq m c) j).trans ((transpose_apply _ _ _ j (ix3 (j 0) (j 2) (j 1)) ?_).trans
    (shapeCast_apply _ _ (ix3 (j 0) (j 2) (j 1)) (ix4 (j 0) (j 2) ⟨(j 1).val / 64, depth_bound _ (j 1).isLt⟩ ⟨(j 1).val % 64, Nat.mod_lt _ (by decide)⟩) ?_))
  · exact fun | ⟨0, _⟩ => rfl | ⟨1, _⟩ => rfl | ⟨2, _⟩ => rfl
  · refine (rowMajor_val4 _ (512 * (8 * 64)) (8 * 64) 64 rfl rfl rfl).trans ((?_ : _ = _).trans (rowMajor_val3 _ (512 * 512) 512 rfl rfl).symm)
    show (j 0).val * (512 * (8 * 64)) + (j 2).val * (8 * 64) + (j 1).val / 64 * 64 + (j 1).val % 64 = (j 0).val * (512 * 512) + (j 2).val * 512 + (j 1).val
    omega

/-- The reference's left operand with heads and depth joined, at an index. -/
theorem joined_at (O : FVec Ideal Cert.ReferenceIdeal.S4x512x16x64 .f32) (j : Cert.ReferenceIdeal.S4x512x1024.Idx) (k : Cert.ReferenceIdeal.S4x512x16x64.Idx)
    (h0 : (k 0).val = (j 0).val) (h1 : (k 1).val = (j 1).val) (h2 : 64 * (k 2).val + (k 3).val = (j 2).val) :
    shapeCast Cert.ReferenceIdeal.S4x512x1024 O Cert.ReferenceIdeal.Gen.shapeCasts_S4x512x16x64_S4x512x1024 j = O k := by
  refine shapeCast_apply _ _ j k ?_
  refine (rowMajor_val4 _ (512 * (16 * 64)) (16 * 64) 64 rfl rfl rfl).trans ((?_ : _ = _).trans (rowMajor_val3 _ (512 * 1024) 1024 rfl rfl).symm)
  omega

section
variable {t0 : ∀ b, ∀ i ∈ (![[], [], [0], []] : Fin 4 → List ℕ) b, 0 < [2, 2, 4].getD i 0} {t1 : ∀ b, ∀ i ∈ (![[0], []] : Fin 2 → List ℕ) b, 0 < [2, 2, 4].getD i 0}
  {t2 : ∀ b, ∀ i ∈ (![[], [0], []] : Fin 3 → List ℕ) b, 0 < [2, 2, 4].getD i 0}
  {u0 : Layout.TilesN ⟨4, ![4, 512, 8, 64]⟩ ⟨4, ![4, 512, 16, 64]⟩ (fun b => Layout.cutSize [2, 2, 4] ((![[], [], [0], []] : Fin 4 → List ℕ) b))}
  {u1 : Layout.TilesN ⟨2, ![512, 1024]⟩ ⟨2, ![1024, 1024]⟩ (fun b => Layout.cutSize [2, 2, 4] ((![[0], []] : Fin 2 → List ℕ) b))}
  {u2 : Layout.TilesN ⟨3, ![4, 256, 1024]⟩ ⟨3, ![4, 512, 1024]⟩ (fun b => Layout.cutSize [2, 2, 4] ((![[], [0], []] : Fin 3 → List ℕ) b))}
  (O : FVec Ideal Cert.ReferenceIdeal.S4x512x16x64 .f32) (W : FVec Ideal Cert.ReferenceIdeal.S1024x1024 .f32)
  (hO : ∀ c : Dev nD, m ((c : Thread nD τ).loc main_arg0) = Layout.blockN ⟨4, ![4, 512, 8, 64]⟩ ⟨4, ![4, 512, 16, 64]⟩ (Layout.meshBlock [2, 2, 4] ![[], [], [0], []] c t0) O u0)
  (hW : ∀ c : Dev nD, m ((c : Thread nD τ).loc main_arg1) = Layout.blockN ⟨2, ![512, 1024]⟩ ⟨2, ![1024, 1024]⟩ (Layout.meshBlock [2, 2, 4] ![[0], []] c t1) W u1)

theorem lin_x (c : Dev nD) : Layout.meshLin [2, 2, 4] c.val [0] = c.val / 8 := by revert c; decide +kernel

include hO hW in
/-- The kernel's operands are each device's part of the reference's. -/
theorem parts : Parts (shapeCast Cert.ReferenceIdeal.S4x512x1024 O Cert.ReferenceIdeal.Gen.shapeCasts_S4x512x16x64_S4x512x1024) W (opA m) (opB m) where
  hA c j := by
    refine (opA_at m c j).trans ((congrFun (hO c) _).trans ((Layout.blockN_apply _ _ _ _).trans (joined_at O _ _ ?_ ?_ ?_).symm))
    · exact (by omega : 0 * 4 + (j 0).val = (j 0).val)
    · exact (by omega : 0 * 512 + (j 2).val = (j 2).val)
    · show 64 * (Layout.meshLin [2, 2, 4] c.val [0] * 8 + (j 1).val / 64) + (0 * 64 + (j 1).val % 64) = 512 * (c.val / 8) + (j 1).val
      rw [lin_x]
      omega
  hB c j := by
    refine (congrFun ((V₁_arg1 m c).trans (hW c)) j).trans ((Layout.blockN_apply _ _ _ _).trans (congrArg W (ext2 ?_ ?_)))
    · show Layout.meshLin [2, 2, 4] c.val [0] * 512 + (j 0).val = 512 * (c.val / 8) + (j 0).val
      rw [lin_x]
      omega
    · exact (by omega : 0 * 1024 + (j 1).val = (j 1).val)

include hO hW in
/-- Each device's result is its block of the reference's value. -/
theorem res_eq (c : Dev nD) : res m c = Layout.blockN ⟨3, ![4, 256, 1024]⟩ ⟨3, ![4, 512, 1024]⟩ (Layout.meshBlock [2, 2, 4] ![[], [0], []] c t2)
    (truncf .bf16 (Host.dotGeneral (F := Ideal) Cert.ReferenceIdeal.dot_S4x512x1024_S1024x1024_S4x512x1024_2_0_01_1_n_n none
      (shapeCast _ O Cert.ReferenceIdeal.Gen.shapeCasts_S4x512x16x64_S4x512x1024) W) Cert.ReferenceIdeal.Gen.bitsLt_bf16_f32) u2 := by
  funext i
  refine (OUT_at (parts m O W hO hW) c i).trans (((Layout.blockN_apply _ _ _ _).trans (ref_at O W _)).trans ?_).symm
  refine congr (congr (congrArg (whole _ W) (Fin.ext ?_)) (Fin.ext ?_)) (Fin.ext ?_)
  · exact (by omega : 0 * 4 + (i 0).val = (i 0).val)
  · show Layout.meshLin [2, 2, 4] c.val [0] * 256 + (i 1).val = 256 * (c.val / 8) + (i 1).val
    rw [lin_x]
    omega
  · exact (by omega : 0 * 1024 + (i 2).val = (i 2).val)
end

end Cert.TwoPhase

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel's body table is the idealized one's: the two have the same text. -/
theorem table_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
/-- So is the table with each call's pipeline. -/
theorem defs_eq : Cert.Kernel.defs (F := Bits) = Cert.KernelIdeal.defs (F := Bits) :=
  congrArg (Pipeline.defs Cert.KernelIdeal.pcfgs) table_eq

/-- The kernel terminates with its arguments unchanged and every counter at zero: its text is the idealized one's, whose
    run holds over any float values. -/
theorem frame_kernel : Cert.quiescent_Kernel := fun m ρ _ => by
  rw [defs_eq]
  exact (θ_run (Cert.KernelIdeal.defs (F := Bits)) (onTc (τ := Cert.KernelIdeal.τ) (Cert.KernelIdeal.main (F := Bits))) _).mono
    (fun _ h => ⟨fun c => ⟨(h.1 c).1.2, (h.1 c).2⟩, h.2⟩) (Cert.TwoPhase.run_main (F := Bits) m ρ)

/-- The same at the extended reals. -/
theorem frame_ideal : Cert.quiescent_KernelIdeal := fun m ρ _ =>
  (θ_run Cert.KernelIdeal.defs _ _).mono (fun _ h => ⟨fun c => ⟨(h.1 c).1.2, (h.1 c).2⟩, h.2⟩) (Cert.TwoPhase.run_main (F := Ideal) m ρ)

/-- The reference terminates with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of rows of the reference's product. -/
theorem value : Cert.algebraic_KernelIdeal_ReferenceIdeal := fun m ρ m' ρ' _ hm =>
  ⟨_, (θ_run Cert.KernelIdeal.defs _ _).mono
      (fun _ h c => ⟨(h.1 c).1.1.trans (Cert.TwoPhase.res_eq m _ _ (fun c => (hm c).1) (fun c => (hm c).2) c), (h.1 c).1.2, (h.1 c).2⟩)
      (Cert.TwoPhase.run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
